-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_finite [hPre_finite : Cert.Pre_finite.Facts] (m : (ℓ : Loc Cert.NearestIdeal.nD Cert.NearestIdeal.τ Cert.NearestIdeal.sig) → Buf (Elt Ideal) ℓ) : Prop :=
  ∀ c : Dev Cert.NearestIdeal.nD,
    (Cert.Pre_finite.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def Pre_NearestRefIdeal (m : (ℓ : Loc Cert.NearestRefIdeal.nD Cert.NearestRefIdeal.τ Cert.NearestRefIdeal.sig) → Buf (Elt Ideal) ℓ) : Prop :=
  True

def Pre_NearestRefIdeal_finite [hPre_finite : Cert.Pre_finite.Facts] (m : (ℓ : Loc Cert.NearestRefIdeal.nD Cert.NearestRefIdeal.τ Cert.NearestRefIdeal.sig) → Buf (Elt Ideal) ℓ) : Prop :=
  ∀ c : Dev Cert.NearestRefIdeal.nD,
    (Cert.Pre_finite.fn (F := Ideal) (m ((c.tc : Thread Cert.NearestRefIdeal.nD Cert.NearestRefIdeal.τ).loc Cert.NearestRefIdeal.main_arg0)) (m ((c.tc : Thread Cert.NearestRefIdeal.nD Cert.NearestRefIdeal.τ).loc Cert.NearestRefIdeal.main_arg1))) = (fun _ => 1#1)

def Pre_Lookup [hPre_rows : Cert.Pre_rows.Facts] (m : (ℓ : Loc Cert.Lookup.nD Cert.Lookup.τ Cert.Lookup.sig) → Buf (Elt Bits) ℓ) : Prop :=
  ∀ c : Dev Cert.Lookup.nD,
    (Cert.Pre_rows.fn (F := Bits) (m ((c.tc : Thread Cert.Lookup.nD Cert.Lookup.τ).loc Cert.Lookup.main_arg0)) (m ((c.tc : Thread Cert.Lookup.nD Cert.Lookup.τ).loc Cert.Lookup.main_arg1))) = (fun _ => 1#1)

def Pre_LookupRef [hPre_rows : Cert.Pre_rows.Facts] (m : (ℓ : Loc Cert.LookupRef.nD Cert.LookupRef.τ Cert.LookupRef.sig) → Buf (Elt Bits) ℓ) : Prop :=
  ∀ c : Dev Cert.LookupRef.nD,
    (Cert.Pre_rows.fn (F := Bits) (m ((c.tc : Thread Cert.LookupRef.nD Cert.LookupRef.τ).loc Cert.LookupRef.main_arg0)) (m ((c.tc : Thread Cert.LookupRef.nD Cert.LookupRef.τ).loc Cert.LookupRef.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_finite [hNearestIdeal : Cert.NearestIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestRefIdeal [hNearestRefIdeal : Cert.NearestRefIdeal.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1))
      ∧ r.2.sem = fun _ => 0)

def quiescent_NearestRefIdeal_pre_finite [hNearestRefIdeal : Cert.NearestRefIdeal.Facts] [hPre_finite : Cert.Pre_finite.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal_finite m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1))
      ∧ r.2.sem = fun _ => 0)

def quiescent_Lookup [hLookup : Cert.Lookup.Facts] [hPre_rows : Cert.Pre_rows.Facts] : Prop :=
  ∀ (m : (ℓ : Loc Cert.Lookup.nD Cert.Lookup.τ Cert.Lookup.sig) → Buf (Elt Bits) ℓ) (g : Dev Cert.Lookup.nD → PrngReg), Pre_Lookup m →
    θ_run (Cert.Lookup.defs (F := Bits)) (Cert.Lookup.threads (F := Bits)) ⟨m, fun _ => 0, g⟩ (fun r => (∀ c : Dev Cert.Lookup.nD,
      r.2.mem ((c.tc : Thread Cert.Lookup.nD Cert.Lookup.τ).loc Cert.Lookup.main_arg0) = m ((c.tc : Thread Cert.Lookup.nD Cert.Lookup.τ).loc Cert.Lookup.main_arg0)
      ∧ r.2.mem ((c.tc : Thread Cert.Lookup.nD Cert.Lookup.τ).loc Cert.Lookup.main_arg1) = m ((c.tc : Thread Cert.Lookup.nD Cert.Lookup.τ).loc Cert.Lookup.main_arg1))
      ∧ r.2.sem = fun _ => 0)

def quiescent_LookupRef [hLookupRef : Cert.LookupRef.Facts] [hPre_rows : Cert.Pre_rows.Facts] : Prop :=
  ∀ (m : (ℓ : Loc Cert.LookupRef.nD Cert.LookupRef.τ Cert.LookupRef.sig) → Buf (Elt Bits) ℓ) (g : Dev Cert.LookupRef.nD → PrngReg), Pre_LookupRef m →
    θ_run (Cert.LookupRef.defs (F := Bits)) (onTc (τ := Cert.LookupRef.τ) (Cert.LookupRef.main (F := Bits))) ⟨m, fun _ => 0, g⟩ (fun r => (∀ c : Dev Cert.LookupRef.nD,
      r.2.mem ((c.tc : Thread Cert.LookupRef.nD Cert.LookupRef.τ).loc Cert.LookupRef.main_arg0) = m ((c.tc : Thread Cert.LookupRef.nD Cert.LookupRef.τ).loc Cert.LookupRef.main_arg0)
      ∧ r.2.mem ((c.tc : Thread Cert.LookupRef.nD Cert.LookupRef.τ).loc Cert.LookupRef.main_arg1) = m ((c.tc : Thread Cert.LookupRef.nD Cert.LookupRef.τ).loc Cert.LookupRef.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Nearest_NearestIdeal : Prop :=
  True

def algebraic_NearestIdeal_NearestRefIdeal_pre_finite [hNearestIdeal : Cert.NearestIdeal.Facts] [hNearestRefIdeal : Cert.NearestRefIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestRefIdeal.nD Cert.NearestRefIdeal.τ Cert.NearestRefIdeal.sig) → Buf (Elt Ideal) ℓ) (g' : Dev Cert.NearestRefIdeal.nD → PrngReg), Pre_NearestIdeal_finite m →
    (∀ c : Dev Cert.NearestIdeal.nD,
      m' ((c.tc : Thread Cert.NearestRefIdeal.nD Cert.NearestRefIdeal.τ).loc Cert.NearestRefIdeal.main_arg0) = m ((c.tc : Thread Cert.NearestIdeal.nD Cert.NearestIdeal.τ).loc Cert.NearestIdeal.main_arg0)
      ∧ m' ((c.tc : Thread Cert.NearestRefIdeal.nD Cert.NearestRefIdeal.τ).loc Cert.NearestRefIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v8)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v8) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestRefIdeal.defs (F := Ideal)) (onTc (τ := Cert.NearestRefIdeal.τ) (Cert.NearestRefIdeal.main (F := Ideal))) ⟨m', fun _ => 0, g'⟩ (fun r => ∀ c : Dev Cert.NearestRefIdeal.nD,
          r.2.mem ((c.tc : Thread Cert.NearestRefIdeal.nD Cert.NearestRefIdeal.τ).loc Cert.NearestRefIdeal.main_v17) = v0 c
          ∧ r.2.mem ((c.tc : Thread Cert.NearestRefIdeal.nD Cert.NearestRefIdeal.τ).loc Cert.NearestRefIdeal.main_arg0) = m' ((c.tc : Thread Cert.NearestRefIdeal.nD Cert.NearestRefIdeal.τ).loc Cert.NearestRefIdeal.main_arg0)
          ∧ r.2.mem ((c.tc : Thread Cert.NearestRefIdeal.nD Cert.NearestRefIdeal.τ).loc Cert.NearestRefIdeal.main_arg1) = m' ((c.tc : Thread Cert.NearestRefIdeal.nD Cert.NearestRefIdeal.τ).loc Cert.NearestRefIdeal.main_arg1))

def bitexact_Lookup_LookupRef [hLookup : Cert.Lookup.Facts] [hLookupRef : Cert.LookupRef.Facts] [hPre_rows : Cert.Pre_rows.Facts] : Prop :=
  ∀ (m : (ℓ : Loc Cert.Lookup.nD Cert.Lookup.τ Cert.Lookup.sig) → Buf (Elt Bits) ℓ) (g : Dev Cert.Lookup.nD → PrngReg)
    (m' : (ℓ : Loc Cert.LookupRef.nD Cert.LookupRef.τ Cert.LookupRef.sig) → Buf (Elt Bits) ℓ) (g' : Dev Cert.LookupRef.nD → PrngReg), Pre_Lookup m →
    (∀ c : Dev Cert.Lookup.nD,
      m' ((c.tc : Thread Cert.LookupRef.nD Cert.LookupRef.τ).loc Cert.LookupRef.main_arg0) = m ((c.tc : Thread Cert.Lookup.nD Cert.Lookup.τ).loc Cert.Lookup.main_arg0)
      ∧ m' ((c.tc : Thread Cert.LookupRef.nD Cert.LookupRef.τ).loc Cert.LookupRef.main_arg1) = m ((c.tc : Thread Cert.Lookup.nD Cert.Lookup.τ).loc Cert.Lookup.main_arg1)) →
    ∃ (v0 : (c : Dev Cert.Lookup.nD) → Buf (Elt Bits) ((c.tc : Thread Cert.Lookup.nD Cert.Lookup.τ).loc Cert.Lookup.main_v5)),
      θ_run (Cert.Lookup.defs (F := Bits)) (Cert.Lookup.threads (F := Bits)) ⟨m, fun _ => 0, g⟩ (fun r => ∀ c : Dev Cert.Lookup.nD,
          r.2.mem ((c.tc : Thread Cert.Lookup.nD Cert.Lookup.τ).loc Cert.Lookup.main_v5) = v0 c
          ∧ r.2.mem ((c.tc : Thread Cert.Lookup.nD Cert.Lookup.τ).loc Cert.Lookup.main_arg0) = m ((c.tc : Thread Cert.Lookup.nD Cert.Lookup.τ).loc Cert.Lookup.main_arg0)
          ∧ r.2.mem ((c.tc : Thread Cert.Lookup.nD Cert.Lookup.τ).loc Cert.Lookup.main_arg1) = m ((c.tc : Thread Cert.Lookup.nD Cert.Lookup.τ).loc Cert.Lookup.main_arg1))
      ∧ θ_run (Cert.LookupRef.defs (F := Bits)) (onTc (τ := Cert.LookupRef.τ) (Cert.LookupRef.main (F := Bits))) ⟨m', fun _ => 0, g'⟩ (fun r => ∀ c : Dev Cert.LookupRef.nD,
          r.2.mem ((c.tc : Thread Cert.LookupRef.nD Cert.LookupRef.τ).loc Cert.LookupRef.main_v0) = v0 c
          ∧ r.2.mem ((c.tc : Thread Cert.LookupRef.nD Cert.LookupRef.τ).loc Cert.LookupRef.main_arg0) = m' ((c.tc : Thread Cert.LookupRef.nD Cert.LookupRef.τ).loc Cert.LookupRef.main_arg0)
          ∧ r.2.mem ((c.tc : Thread Cert.LookupRef.nD Cert.LookupRef.τ).loc Cert.LookupRef.main_arg1) = m' ((c.tc : Thread Cert.LookupRef.nD Cert.LookupRef.τ).loc Cert.LookupRef.main_arg1))

def Claim : Prop :=
  ∃ (hKernelIdeal : Cert.KernelIdeal.Facts) (hReferenceIdeal : Cert.ReferenceIdeal.Facts) (hNearest : Cert.Nearest.Facts) (hNearestIdeal : Cert.NearestIdeal.Facts) (hNearestRefIdeal : Cert.NearestRefIdeal.Facts) (hLookup : Cert.Lookup.Facts) (hLookupRef : Cert.LookupRef.Facts) (hPre_finite : Cert.Pre_finite.Facts) (hPre_rows : Cert.Pre_rows.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Nearest (hNearest := hNearest)
    ∧ quiescent_NearestIdeal (hNearestIdeal := hNearestIdeal)
    ∧ quiescent_NearestIdeal_pre_finite (hNearestIdeal := hNearestIdeal) (hPre_finite := hPre_finite)
    ∧ quiescent_NearestRefIdeal (hNearestRefIdeal := hNearestRefIdeal)
    ∧ quiescent_NearestRefIdeal_pre_finite (hNearestRefIdeal := hNearestRefIdeal) (hPre_finite := hPre_finite)
    ∧ quiescent_Lookup (hLookup := hLookup) (hPre_rows := hPre_rows)
    ∧ quiescent_LookupRef (hLookupRef := hLookupRef) (hPre_rows := hPre_rows)
    ∧ algebraic_KernelIdeal_ReferenceIdeal_pre_finite (hKernelIdeal := hKernelIdeal) (hReferenceIdeal := hReferenceIdeal) (hPre_finite := hPre_finite)
    ∧ preserves_Nearest_NearestIdeal
    ∧ algebraic_NearestIdeal_NearestRefIdeal_pre_finite (hNearestIdeal := hNearestIdeal) (hNearestRefIdeal := hNearestRefIdeal) (hPre_finite := hPre_finite)
    ∧ bitexact_Lookup_LookupRef (hLookup := hLookup) (hLookupRef := hLookupRef) (hPre_rows := hPre_rows)
-- ==== Pre_finite.lean ====
abbrev S8192x32 : Shape := ⟨2, ![8192, 32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel

variable [Facts]

def fn {F : FTy → Type} [FloatOps F] (main_arg0 : FVec F S8192x32 .f32) (main_arg1 : FVec F S8192x32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Pre_rows.lean ====
abbrev S8192x32 : Shape := ⟨2, ![8192, 32]⟩
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192x32 .f32) (main_arg1 : IVec S8192 32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 8192#32
  let main_v2 : IVec S8192 32 := broadcastInDim S8192 ![] bcast_S_S8192 main_c_0
  let main_v3 : IVec S8192 1 := cmpi .slt main_arg1 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== KernelIdeal.lean ====
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S2048x32 : Shape := ⟨2, ![2048, 32]⟩
abbrev S2048x1 : Shape := ⟨2, ![2048, 1]⟩
abbrev S2048 : Shape := ⟨1, ![2048]⟩
abbrev S2048x8192 : Shape := ⟨2, ![2048, 8192]⟩
abbrev S2048x2048 : Shape := ⟨2, ![2048, 2048]⟩
abbrev S32x2x128 : Shape := ⟨3, ![32, 2, 128]⟩
abbrev S8192x128 : Shape := ⟨2, ![8192, 128]⟩
abbrev S1 : Shape := ⟨1, ![1]⟩
abbrev S2x128 : Shape := ⟨2, ![2, 128]⟩
abbrev S128x128 : Shape := ⟨2, ![128, 128]⟩
abbrev S1x2x128 : Shape := ⟨3, ![1, 2, 128]⟩
abbrev S1x128 : Shape := ⟨2, ![1, 128]⟩
abbrev S128 : Shape := ⟨1, ![128]⟩

abbrev nBuf : Table → Nat
  | .hbm => 22
  | .local .tc .vmem => 8
  | .local .scVector .vmem => 2
  | _ => 0

abbrev bufTy : (tb : Table) → Fin (nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S8192, .i32⟩
  | .hbm, ⟨14, _⟩ => ⟨S32x2x128, .i32⟩
  | .hbm, ⟨15, _⟩ => ⟨S_, .f32⟩
  | .hbm, ⟨16, _⟩ => ⟨S8192x128, .f32⟩
  | .hbm, ⟨17, _⟩ => ⟨S_, .i32⟩
  | .hbm, ⟨18, _⟩ => ⟨S1, .i32⟩
  | .hbm, ⟨19, _⟩ => ⟨S8192x128, .f32⟩
  | .hbm, ⟨20, _⟩ => ⟨S8192x128, .f32⟩
  | .hbm, ⟨21, _⟩ => ⟨S8192x32, .f32⟩
  | .local .tc .vmem, ⟨0, _⟩ => ⟨S2048x32, .f32⟩
  | .local .tc .vmem, ⟨1, _⟩ => ⟨S2048x32, .f32⟩
  | .local .tc .vmem, ⟨2, _⟩ => ⟨S2048x1, .f32⟩
  | .local .tc .vmem, ⟨3, _⟩ => ⟨S2048x1, .f32⟩
  | .local .tc .vmem, ⟨4, _⟩ => ⟨S8192x32, .f32⟩
  | .local .tc .vmem, ⟨5, _⟩ => ⟨S1x8192, .f32⟩
  | .local .tc .vmem, ⟨6, _⟩ => ⟨S2048, .i32⟩
  | .local .tc .vmem, ⟨7, _⟩ => ⟨S2048, .i32⟩
  | .local .scVector .vmem, ⟨0, _⟩ => ⟨S2x128, .i32⟩
  | .local .scVector .vmem, ⟨1, _⟩ => ⟨S128x128, .f32⟩
  | _, _ => ⟨S8192x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v12_scv : Ref sig .scVector := ⟨.hbm, 19, rfl⟩
abbrev main_v9_scv : Ref sig .scVector := ⟨.hbm, 14, rfl⟩
abbrev main_v13_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  let c0_i32_16_r0 : BitVec 32 := 0#32
  ![v1.toNat, 0, 0]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v9 : BitVec 32 := Scalar.addi v2 c0_i32_7
  let c0_i32_15_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S1 : Shape := ⟨1, ![1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S32x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S_, .f32⟩
  | .hbm, ⟨25, _⟩ => ⟨S_, .i32⟩
  | .hbm, ⟨26, _⟩ => ⟨S8192, .f32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S1, .i32⟩
  | .hbm, ⟨37, _⟩ => ⟨S_, .i32⟩
  | .hbm, ⟨38, _⟩ => ⟨S8192x1, .i32⟩
  | .hbm, ⟨39, _⟩ => ⟨S8192x1, .i1⟩
  | .hbm, ⟨40, _⟩ => ⟨S1x1, .i32⟩
  | .hbm, ⟨41, _⟩ => ⟨S8192x1, .i32⟩
  | .hbm, ⟨42, _⟩ => ⟨S8192x1, .i1⟩
  | .hbm, ⟨43, _⟩ => ⟨S8192x1, .i1⟩
  | .hbm, ⟨44, _⟩ => ⟨S_, .i1⟩
  | .hbm, ⟨45, _⟩ => ⟨S8192, .i1⟩
  | .hbm, ⟨46, _⟩ => ⟨S8192x32, .f32⟩
  | .hbm, ⟨47, _⟩ => ⟨S8192x32, .i1⟩
  | .hbm, ⟨48, _⟩ => ⟨S_, .f32⟩
  | .hbm, ⟨49, _⟩ => ⟨S8192x32, .f32⟩
  | .hbm, ⟨50, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩

abbrev nD : Nat := 1
abbrev τ : Topo := Topo.v7x

variable {F : FTy → Type} [FloatOps F]
-- ==== Nearest.lean ====
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S2048x32 : Shape := ⟨2, ![2048, 32]⟩
abbrev S2048x1 : Shape := ⟨2, ![2048, 1]⟩
abbrev S2048 : Shape := ⟨1, ![2048]⟩
abbrev S2048x8192 : Shape := ⟨2, ![2048, 8192]⟩
abbrev S2048x2048 : Shape := ⟨2, ![2048, 2048]⟩

abbrev nBuf : Space → Nat
  | .hbm => 14
  | .vmem => 8
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S8192, .i32⟩
  | .local _ .vmem, ⟨0, _⟩ => ⟨S2048x32, .f32⟩
  | .local _ .vmem, ⟨1, _⟩ => ⟨S2048x32, .f32⟩
  | .local _ .vmem, ⟨2, _⟩ => ⟨S2048x1, .f32⟩
  | .local _ .vmem, ⟨3, _⟩ => ⟨S2048x1, .f32⟩
  | .local _ .vmem, ⟨4, _⟩ => ⟨S8192x32, .f32⟩
  | .local _ .vmem, ⟨5, _⟩ => ⟨S1x8192, .f32⟩
  | .local _ .vmem, ⟨6, _⟩ => ⟨S2048, .i32⟩
  | .local _ .vmem, ⟨7, _⟩ => ⟨S2048, .i32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NearestRefIdeal.lean ====
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S32x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S_, .f32⟩
  | .hbm, ⟨25, _⟩ => ⟨S_, .i32⟩
  | .hbm, ⟨26, _⟩ => ⟨S8192, .f32⟩
  | .hbm, ⟨27, _⟩ => ⟨S8192, .i32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Lookup.lean ====
abbrev S8192x32 : Shape := ⟨2, ![8192, 32]⟩
abbrev S8192 : Shape := ⟨1, ![8192]⟩
abbrev S32x2x128 : Shape := ⟨3, ![32, 2, 128]⟩
abbrev S_ : Shape := ⟨0, ![]⟩
abbrev S8192x128 : Shape := ⟨2, ![8192, 128]⟩
abbrev S1 : Shape := ⟨1, ![1]⟩
abbrev S2x128 : Shape := ⟨2, ![2, 128]⟩
abbrev S128x128 : Shape := ⟨2, ![128, 128]⟩
abbrev S1x2x128 : Shape := ⟨3, ![1, 2, 128]⟩
abbrev S1x128 : Shape := ⟨2, ![1, 128]⟩
abbrev S128 : Shape := ⟨1, ![128]⟩

abbrev nBuf : Table → Nat
  | .hbm => 10
  | .local .scVector .vmem => 2
  | _ => 0

abbrev bufTy : (tb : Table) → Fin (nBuf tb) → BufTy
  | .hbm, ⟨0, _⟩ => ⟨S8192x32, .f32⟩
  | .hbm, ⟨1, _⟩ => ⟨S8192, .i32⟩
  | .hbm, ⟨2, _⟩ => ⟨S32x2x128, .i32⟩
  | .hbm, ⟨3, _⟩ => ⟨S_, .f32⟩
  | .hbm, ⟨4, _⟩ => ⟨S8192x128, .f32⟩
  | .hbm, ⟨5, _⟩ => ⟨S_, .i32⟩
  | .hbm, ⟨6, _⟩ => ⟨S1, .i32⟩
  | .hbm, ⟨7, _⟩ => ⟨S8192x128, .f32⟩
  | .hbm, ⟨8, _⟩ => ⟨S8192x128, .f32⟩
  | .hbm, ⟨9, _⟩ => ⟨S8192x32, .f32⟩
  | .local .scVector .vmem, ⟨0, _⟩ => ⟨S2x128, .i32⟩
  | .local .scVector .vmem, ⟨1, _⟩ => ⟨S128x128, .f32⟩
  | _, _ => ⟨S8192x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v3_scv : Ref sig .scVector := ⟨.hbm, 7, rfl⟩
abbrev main_v0_scv : Ref sig .scVector := ⟨.hbm, 2, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  let c0_i32_16_r0 : BitVec 32 := 0#32
  ![v1.toNat, 0, 0]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v9 : BitVec 32 := Scalar.addi v2 c0_i32_7
  let c0_i32_15_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LookupRef.lean ====
abbrev S8192x32 : Shape := ⟨2, ![8192, 32]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S1, .i32⟩
  | .hbm, ⟨11, _⟩ => ⟨S_, .i32⟩
  | .hbm, ⟨12, _⟩ => ⟨S8192x1, .i32⟩
  | .hbm, ⟨13, _⟩ => ⟨S8192x1, .i1⟩
  | .hbm, ⟨14, _⟩ => ⟨S1x1, .i32⟩
  | .hbm, ⟨15, _⟩ => ⟨S8192x1, .i32⟩
  | .hbm, ⟨16, _⟩ => ⟨S8192x1, .i1⟩
  | .hbm, ⟨17, _⟩ => ⟨S8192x1, .i1⟩
  | .hbm, ⟨18, _⟩ => ⟨S_, .i1⟩
  | .hbm, ⟨19, _⟩ => ⟨S8192, .i1⟩
  | .hbm, ⟨20, _⟩ => ⟨S8192x32, .f32⟩
  | .hbm, ⟨21, _⟩ => ⟨S8192x32, .i1⟩
  | .hbm, ⟨22, _⟩ => ⟨S_, .f32⟩
  | .hbm, ⟨23, _⟩ => ⟨S8192x32, .f32⟩
  | .hbm, ⟨24, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.KernelTile.lean ====
/-
  The whole kernel's SparseCore call: one tile's task. The program and its ghost state, what a tile's copies and streams
  bring, and the tile's run, its two blocks of the result holding the rows that its indices name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state of its launch -/

/-- The labels of the program without the SparseCores, -/
abbrev ΛP : Labels := Pipeline.Sig Λ₀ (Fin 1) fun p => (pcfgs (F := F) p).Adm
/-- the SparseCores' part of the program, -/
abbrev K : SparseCore.Cfg τ sig (ΛP (F := F)) 1 := sc (F := F)
/-- the bodies that the labels name, -/
abbrev D [FloatOps F] : Defs nD τ sig (Elt F) (ΛP (F := F)) := Pipeline.defs pcfgs defs₀
/-- and the variants: no loop of the program has one. -/
abbrev 𝒱₀ : Variants := Variants.none
abbrev 𝒱 : Variants := 𝒱₀.lift
abbrev v₀ : 𝒱.V := Sum.inl none
/-- The ghost state: the rounds of the SparseCores' handshakes, -/
abbrev UH : Type := URounds (GSem nD τ sig) ℕ
/-- the rounds of the pipeline, -/
abbrev UP : Type := URounds (GSem nD τ sig) Unit
/-- and with them the counts of the tiles' copies. -/
abbrev UU : Type := UH × (UP × Counters)

local notation "𝕄" => MT nD τ sig (HIx 1) (Elt F) ℕ UU ℕ

/-- Where the handshakes' rounds lie in the ghost state. -/
abbrev EH : Emb UH (MT nD τ sig (HIx 1) (Elt F) ℕ UU ℕ) := embL
/-- Where the pipeline's rounds lie in it. -/
abbrev EP : Emb UP (MT nD τ sig (HIx 1) (Elt F) ℕ UU ℕ) := (Emb.inl : Emb UP (UP × Counters)).trans embR

/-- The side conditions of the SparseCores' launch: which counters are apart and outlive the tasks, and whose the buffers are. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The arrays the call names, and their parts -/

/-- The padded codebook, the index array and the result array as locations of a device; -/
abbrev tabLoc (d : Dev nD) : Loc nD τ sig := (SparseCore.T d).loc main_v12
abbrev idxLoc (d : Dev nD) : Loc nD τ sig := (SparseCore.T d).loc main_v9
abbrev outLoc (d : Dev nD) : Loc nD τ sig := (SparseCore.T d).loc main_v13

/-- the same as a tile names them, and the tile's list of indices and its buffer of rows. -/
abbrev tabV : Memref sig .scVector .hbm S8192x128 .f32 := Memref.whole main_v12_scv
abbrev idxV : Memref sig .scVector .hbm S32x2x128 .i32 := Memref.whole main_v9_scv
abbrev outV : Memref sig .scVector .hbm S8192x128 .f32 := Memref.whole main_v13_scv
abbrev listV : Memref sig .scVector .vmem S2x128 .i32 := Memref.whole cc1_scratch0
abbrev rowsV : Memref sig .scVector .vmem S128x128 .f32 := Memref.whole cc1_scratch1

/-- The index array divides into 32 pages, -/
theorem idx_div : 32 ∣ S32x2x128.size 0 := ⟨1, rfl⟩
/-- the result array into 64 blocks. -/
theorem out_div : 64 ∣ S8192x128.size 0 := ⟨128, rfl⟩
/-- Page `w` of the index array; block `b` (128 rows) of the result. -/
abbrev page (w : Fin 32) : Rect S32x2x128 := Rect.part (s := S32x2x128) (a₀ := 0) idx_div w
abbrev block (b : Fin 64) : Rect S8192x128 := Rect.part (s := S8192x128) (a₀ := 0) out_div b

/-- What the call takes: the padded codebook, the index array, what the result array held before. -/
structure Args (F : FTy → Type) where
  tab : (d : Dev nD) → Buf (Elt F) (tabLoc d)
  idx : (d : Dev nD) → Buf (Elt F) (idxLoc d)
  old : (d : Dev nD) → Buf (Elt F) (outLoc d)

variable (A : Args F)

/-- Every index names a row of the padded codebook. -/
def InRange : Prop := ∀ (d : Dev nD) (j : S32x2x128.Idx), (A.idx d j : BitVec 32).toNat < 8192

/-- The index that belongs to row `r` of the result. -/
def rowIdx (r : Fin 8192) : S32x2x128.Idx := ix3 (⟨r.val / 256, by omega⟩ : Fin 32) (⟨r.val % 256 / 128, by omega⟩ : Fin 2) (⟨r.val % 128, by omega⟩ : Fin 128)

/-- The result: row `r` is the table's row that `r`'s index names. -/
def res (d : Dev nD) : Buf (Elt F) (outLoc d) := fun (j : S8192x128.Idx) =>
  A.tab d (ix2 (⟨(A.idx d (rowIdx (j 0)) : BitVec 32).toNat % 8192, Nat.mod_lt _ (by decide)⟩ : Fin 8192) (j 1))

/-- A share of the table for each of the 32 tiles. -/
abbrev share (w : Fin 32) : PosShare TreeShare := Transfers.dealOf fullShare Finset.univ w

section Tile

variable (d : Dev nD) (L : grid1.Coords)

/-- The tile's SparseCore, its place there, and its thread. -/
abbrev coreOf (L : grid1.Coords) : Fin τ.nSC := (L 0).castLE hcore1
abbrev tileOf (L : grid1.Coords) : Fin τ.nSub := (L 1).castLE hsub1
abbrev VT (d : Dev nD) (L : grid1.Coords) : Thread nD τ := V d (coreOf L) (tileOf L)

/-- The tile's page of the index array and its two blocks of the result, as the body slices them. -/
abbrev pageK (L : grid1.Coords) : Rect S32x2x128 := Rect.unit (s := S32x2x128) (k1_off1 L) S1x2x128.size (k1_off1_inb L)
abbrev pageV (L : grid1.Coords) : Memref sig .scVector .hbm S2x128 .i32 := ((idxV).slice (pageK L) (fun _ => rfl)).squeeze S2x128 squeezes_S1x2x128_S2x128
abbrev blockK0 (L : grid1.Coords) : Rect S8192x128 := Rect.unit (s := S8192x128) (k1_off2 L 0#32) S128x128.size (k1_off2_inb L 0)
abbrev blockK1 (L : grid1.Coords) : Rect S8192x128 := Rect.unit (s := S8192x128) (k1_off2 L 128#32) S128x128.size (k1_off2_inb L 1)
abbrev blockV0 (L : grid1.Coords) : Memref sig .scVector .hbm S128x128 .f32 := (outV).slice (blockK0 L) (fun _ => rfl)
abbrev blockV1 (L : grid1.Coords) : Memref sig .scVector .hbm S128x128 .f32 := (outV).slice (blockK1 L) (fun _ => rfl)

/-- The copies' counters by number. -/
abbrev csem (k : Nat) (hk : k < 12 := by decide) : DmaSem sig := ⟨k, hk⟩
/-- The tile's four DMA counters at zero. -/
abbrev cells0 (d : Dev nD) (L : grid1.Coords) : sProp 𝕄 :=
  iprop(semVal (VT d L, SemLoc.dma (csem 8)) 0 ∗ semVal (VT d L, SemLoc.dma (csem 9)) 0 ∗ semVal (VT d L, SemLoc.dma (csem 10)) 0
    ∗ semVal (VT d L, SemLoc.dma (csem 11)) 0)

/-- What the first copy brings into the tile's memory: its page of the index array. -/
abbrev fetched : S2x128.Idx → Elt F .i32 := ReadAs.same.apply ((pageV L).view.read (Elt F) (A.idx d))

/-- An entry of it is the index array's entry at the page's place. -/
theorem fetched_apply (x : S2x128.Idx) : fetched A d L x = A.idx d ((pageV L).view.emb x) :=
  (View.read_apply _ _).trans (cast_eq _ _)

/-- Row `128 j + y` of the tile's 256 rows of the result. -/
def rowAt (L : grid1.Coords) (j : Fin 2) (y : Fin 128) : Fin 8192 :=
  ⟨512 * (L 1).val + 256 * (L 0).val + 128 * j.val + y.val, by
    have h0 : (L 0).val < 2 := (L 0).isLt
    have h1 : (L 1).val < 16 := (L 1).isLt
    omega⟩

/-- Entry `(j, y)` of the tile's page is the index of the tile's row `128 j + y`. -/
theorem page_emb (j : Fin 2) (y : Fin 128) : (pageV L).view.emb (ix2 j y) = rowIdx (rowAt L j y) := by
  have h0 : (L 0).val < 2 := (L 0).isLt
  have h1 : (L 1).val < 16 := (L 1).isLt
  have e : (pageV L).view.emb (ix2 j y) = (pageK L).emb (Shape.reshapeEquiv squeezes_S1x2x128_S2x128.numel_eq (ix2 j y)) := rfl
  have hr : Shape.reshapeEquiv squeezes_S1x2x128_S2x128.numel_eq (ix2 j y) = (ix3 (0 : Fin 1) j y : S1x2x128.Idx) :=
    Shape.reshapeEquiv_eq_of_rowMajor (s := S1x2x128) (s' := S2x128) _
      (by rw [rowMajor_val3 _ 256 128 rfl rfl, rowMajor_val2 _ 128 rfl]; simp [ix3, ix2])
  rw [e, hr]
  funext a
  refine Fin.ext ?_
  simp only [Rect.emb_apply, Rect.off_unit, Rect.stride_unit, k1_off1_eq]
  fin_cases a <;> simp [rowIdx, rowAt] <;> omega

/-- A row of the fetched page as the stream reads it: entry `y` of row `j` is the index of the tile's row `128 j + y`. -/
theorem list_read (g0 : Buf (Elt F) ((listV).view.loc (VT d L)))
    (pay : S2x128.Idx → Elt F .i32) (hpay : pay = fetched A d L) (j : Fin 2)
    (hk : ∀ a, (![j.val, 0] : Fin 2 → Nat) a + S1x128.size a ≤ S2x128.size a)
    (hq : (Rect.unit (s := S2x128) ![j.val, 0] S1x128.size hk).shape.Squeezes S128) (x : S128.Idx) :
    View.read (Elt F) ((((listV).slice (Rect.unit (s := S2x128) ![j.val, 0] S1x128.size hk) (fun _ => rfl)).squeeze S128 hq)).view
      ((listV).view.writes (Elt F) g0 [⟨Rect.whole cc1_scratch0.ty.shape, pay⟩]) x = A.idx d (rowIdx (rowAt L j (x 0))) := by
  subst hpay
  have e : View.read (Elt F) ((((listV).slice (Rect.unit (s := S2x128) ![j.val, 0] S1x128.size hk) (fun _ => rfl)).squeeze S128 hq)).view
        ((listV).view.writes (Elt F) g0 [⟨Rect.whole cc1_scratch0.ty.shape, fetched A d L⟩]) x
      = View.read (Elt F) (listV).view ((listV).view.writes (Elt F) g0 [⟨Rect.whole cc1_scratch0.ty.shape, fetched A d L⟩])
          ((Rect.unit (s := S2x128) ![j.val, 0] S1x128.size hk).emb ((Shape.reshapeEquiv hq.numel_eq) x)) := by
    rw [View.read_apply, View.read_apply]; rfl
  rw [e, show View.read (Elt F) (listV).view ((listV).view.writes (Elt F) g0 [⟨Rect.whole cc1_scratch0.ty.shape, fetched A d L⟩]) = fetched A d L from View.read_writes_whole _ _ _, fetched_apply]
  have hx : (Rect.unit (s := S2x128) ![j.val, 0] S1x128.size hk).emb ((Shape.reshapeEquiv hq.numel_eq) x) = ix2 j (x 0) := by
    have hr : Shape.reshapeEquiv hq.numel_eq x = (ix2 (0 : Fin 1) (x 0) : S1x128.Idx) :=
      Shape.reshapeEquiv_eq_of_rowMajor (s := S1x128) (s' := S128) _
        (by rw [rowMajor_val2 _ 128 rfl, rowMajor_val1]; simp [ix2])
    rw [hr]
    funext a
    refine Fin.ext ?_
    simp only [Rect.emb_apply, Rect.off_unit, Rect.stride_unit]
    fin_cases a <;> simp [ix2]
  rw [hx]
  exact congrArg (A.idx d) (page_emb L j (x 0))

/-- Every word of a row of the fetched page is in range, whatever the buffer held before. -/
theorem list_inRange (h : InRange A) (g0 : Buf (Elt F) ((listV).view.loc (VT d L)))
    (pay : S2x128.Idx → Elt F .i32) (hpay : pay = fetched A d L) (j : Fin 2)
    (hk : ∀ a, (![j.val, 0] : Fin 2 → Nat) a + S1x128.size a ≤ S2x128.size a)
    (hq : (Rect.unit (s := S2x128) ![j.val, 0] S1x128.size hk).shape.Squeezes S128) :
    ∀ x, (View.read (Elt F) ((((listV).slice (Rect.unit (s := S2x128) ![j.val, 0] S1x128.size hk) (fun _ => rfl)).squeeze S128 hq)).view
      ((listV).view.writes (Elt F) g0 [⟨Rect.whole cc1_scratch0.ty.shape, pay⟩]) x).toNat < 8192 := by
  intro x
  rw [list_read A d L g0 pay hpay j hk hq x]
  exact h d _

/-- The rows gathered by a list that names, for the tile's row `128 j + y`, that row's index: entry `(y, k)` is the
    result's. -/
theorem gathered_apply (h : InRange A) (j : Fin 2) (hg : S8192x128.Gathers 0 S128x128) (t : S8192x128.Idx → Elt F .f32) (ht : t = A.tab d)
    (l : S128.Idx → Elt F .i32) (hl : ∀ x, l x = A.idx d (rowIdx (rowAt L j (x 0))))
    (hn : S128.numel = S128x128.size hg.axis') (hin : ∀ x, (l x).toNat < S8192x128.size hg.axis) (y : S128x128.Idx) :
    SparseCore.gatherPayload hg t (SparseCore.rows l hn hin) y = res A d (ix2 (rowAt L j (y 0)) (y 1)) := by
  subst ht
  unfold SparseCore.gatherPayload res
  refine congrArg (A.tab d) ?_
  have hy : (S128.rowMajor.symm ((y hg.axis').cast hn.symm)) 0 = y 0 := by
    refine Fin.ext ?_
    have := rowMajor_val1 (S128.rowMajor.symm ((y hg.axis').cast hn.symm))
    rw [← this, Equiv.apply_symm_apply]
    rfl
  have hv : (A.idx d (rowIdx (rowAt L j (y 0))) : BitVec 32).toNat < 8192 := h d _
  funext a
  refine Fin.ext ?_
  match a with
  | ⟨0, _⟩ =>
    refine (congrArg Fin.val (Shape.Gathers.idx_axis hg _ y)).trans ?_
    change (l _).toNat = _ % 8192
    rw [hl, hy]
    exact (Nat.mod_eq_of_lt hv).symm
  | ⟨1, _⟩ => exact Shape.Gathers.idx_of_ne hg _ y (⟨1, by decide⟩ : Fin 2) (by decide)

/-- A block the tile's gathered rows were copied to holds the result's. -/
theorem block0_value (p : S128x128.Idx → Elt F .f32) (hp : ∀ y : S128x128.Idx, p y = res A d (ix2 (rowAt L 0 (y 0)) (y 1)))
    (i : S8192x128.Idx) (hi : i ∈ (blockV0 L).view.set) :
    (blockV0 L).view.writes (Elt F) (A.old d) [⟨Rect.whole S128x128, p⟩] i = res A d i := by
  obtain ⟨y, -, rfl⟩ := Finset.mem_map.mp hi
  have e := congrFun (View.read_writes_whole (Val := Elt F) (blockV0 L).view (A.old d) p) y
  rw [View.read_apply, cast_eq, hp] at e
  refine e.trans (congrArg (res A d) ?_)
  funext a
  refine Fin.ext ?_
  change _ = ((blockK0 L).emb y a).val
  have hk := k1_off2_eq L 0
  simp only [Rect.emb_apply, Rect.off_unit, Rect.stride_unit]
  rw [show k1_off2 L 0#32 = _ from hk]
  fin_cases a <;> simp [rowAt, ix2]

/-- Holding the first block as written is holding the result there. -/
theorem block0_pts (p : S128x128.Idx → Elt F .f32) (hp : ∀ y : S128x128.Idx, p y = res A d (ix2 (rowAt L 0 (y 0)) (y 1))) :
    (((blockV0 L).view.loc (VT d L) ↦[(blockV0 L).view.set]{fullShare} (blockV0 L).view.writes (Elt F) (A.old d) [⟨Rect.whole S128x128, p⟩]) : sProp 𝕄)
      = ((blockV0 L).view.loc (VT d L) ↦[(blockV0 L).view.set]{fullShare} res A d) :=
  pointsTo_congr (block0_value A d L p hp)

/-- The same of the second block. -/
theorem block1_value (p : S128x128.Idx → Elt F .f32) (hp : ∀ y : S128x128.Idx, p y = res A d (ix2 (rowAt L 1 (y 0)) (y 1)))
    (i : S8192x128.Idx) (hi : i ∈ (blockV1 L).view.set) :
    (blockV1 L).view.writes (Elt F) (A.old d) [⟨Rect.whole S128x128, p⟩] i = res A d i := by
  obtain ⟨y, -, rfl⟩ := Finset.mem_map.mp hi
  have e := congrFun (View.read_writes_whole (Val := Elt F) (blockV1 L).view (A.old d) p) y
  rw [View.read_apply, cast_eq, hp] at e
  refine e.trans (congrArg (res A d) ?_)
  funext a
  refine Fin.ext ?_
  change _ = ((blockK1 L).emb y a).val
  have hk := k1_off2_eq L 1
  simp only [Rect.emb_apply, Rect.off_unit, Rect.stride_unit]
  rw [show k1_off2 L 128#32 = _ from hk]
  fin_cases a <;> simp [rowAt, ix2]

/-- So of the second block. -/
theorem block1_pts (p : S128x128.Idx → Elt F .f32) (hp : ∀ y : S128x128.Idx, p y = res A d (ix2 (rowAt L 1 (y 0)) (y 1))) :
    (((blockV1 L).view.loc (VT d L) ↦[(blockV1 L).view.set]{fullShare} (blockV1 L).view.writes (Elt F) (A.old d) [⟨Rect.whole S128x128, p⟩]) : sProp 𝕄)
      = ((blockV1 L).view.loc (VT d L) ↦[(blockV1 L).view.set]{fullShare} res A d) :=
  pointsTo_congr (block1_value A d L p hp)

variable [FloatOps F]

/-- The table read through its whole slice is the table. -/
theorem tab_read (hk : ∀ a, (![0, 0] : Fin 2 → Nat) a + S8192x128.size a ≤ S8192x128.size a)
    (hs : ∀ a, (Rect.unit (s := S8192x128) ![0, 0] S8192x128.size hk).stride a = 1) :
    View.read (Elt F) ((tabV).slice (Rect.unit (s := S8192x128) ![0, 0] S8192x128.size hk) hs).view (A.tab d) = A.tab d := by
  funext i
  rw [View.read_apply, cast_eq]
  refine congrArg (A.tab d) (funext fun a => Fin.ext ?_)
  change ((Rect.unit (s := S8192x128) ![0, 0] S8192x128.size hk).emb i a).val = _
  simp only [Rect.emb_apply, Rect.off_unit, Rect.stride_unit]
  fin_cases a <;> simp

/-- One tile's task: from its page of the indices, a share of the table and its two blocks of the result it runs to the
    end without a fault, the two blocks holding the rows its indices name. -/
theorem tile_run (h : InRange A) (O : CellTallies nD τ sig (HIx 1)) (W : Waits sig (HIx 1)) (q : PosShare TreeShare)
    (g0 : Buf (Elt F) ((listV).view.loc (VT d L))) (t0 : Buf (Elt F) ((rowsV).view.loc (VT d L))) :
    (iprop(Transfers.MayWaits (VT d L) (default : HIx 1) O
        ∗ ((pageV L).view.loc (VT d L) ↦[(pageV L).view.set]{fullShare} A.idx d)
        ∗ ((tabV).view.loc (VT d L) ↦{q} A.tab d)
        ∗ ((blockV0 L).view.loc (VT d L) ↦[(blockV0 L).view.set]{fullShare} A.old d)
        ∗ ((blockV1 L).view.loc (VT d L) ↦[(blockV1 L).view.set]{fullShare} A.old d)
        ∗ ((listV).view.loc (VT d L) ↦[(listV).view.set]{fullShare} g0)
        ∗ ((rowsV).view.loc (VT d L) ↦[(rowsV).view.set]{fullShare} t0)
        ∗ cells0 d L
        ∗ owes (VT d L) O W) : sProp 𝕄)
      ⊢ wp frame (wpE (defs₀ (F := F)) 𝒱₀ (VT d L) none) Set.univ
          (cc1_gk L tabV (Memref.isWhole_whole _) idxV (Memref.isWhole_whole _) outV (Memref.isWhole_whole _)
            listV (Memref.isWhole_whole _) rowsV (Memref.isWhole_whole _) cc1_scratch2 cc1_scoped0 cc1_scoped1 cc1_scoped2)
          fun _ => iprop(((pageV L).view.loc (VT d L) ↦[(pageV L).view.set]{fullShare} A.idx d)
            ∗ ((tabV).view.loc (VT d L) ↦{q} A.tab d)
            ∗ ((blockV0 L).view.loc (VT d L) ↦[(blockV0 L).view.set]{fullShare} res A d)
            ∗ ((blockV1 L).view.loc (VT d L) ↦[(blockV1 L).view.set]{fullShare} res A d)
            ∗ (∃ g, (listV).view.loc (VT d L) ↦[(listV).view.set]{fullShare} g)
            ∗ (∃ g, (rowsV).view.loc (VT d L) ↦[(rowsV).view.set]{fullShare} g)
            ∗ cells0 d L
            ∗ ∃ W', owes (VT d L) O W') := by
  iintro ⟨#Hmw, HI, HX, HO0, HO1, HG, HT, ⟨Hc0, Hc1, Hc2, Hc3⟩, HO⟩
  have hin0 := fun g => list_inRange A d L h g (fetched A d L) rfl 0 inb_S2x128_S1x128_0_0 squeezes_S1x128_S128
  have hin1 := fun g => list_inRange A d L h g (fetched A d L) rfl 1 inb_S2x128_S1x128_1_0 squeezes_S1x128_S128
  sl_unfold [cc1_gk, k1_part1]
  sl_exec
  sl_step
  have e0 : ∀ y, tile_run.sl.dma0_1 A d L t0 hin0 y = res A d (ix2 (rowAt L 0 (y 0)) (y 1)) := fun y => by
    have e : tile_run.sl.dma0_1 A d L t0 hin0 = tile_run.sl.gather1 A d L hin0 := View.read_writes_whole _ _ _
    rw [e]
    exact gathered_apply A d L h 0 _ _ (tab_read A d _ _) _ (fun x => list_read A d L _ _ rfl 0 _ _ x) _ _ y
  have e1 : ∀ y, tile_run.sl.dma0_2 A d L t0 hin0 hin1 y = res A d (ix2 (rowAt L 1 (y 0)) (y 1)) := fun y => by
    have e : tile_run.sl.dma0_2 A d L t0 hin0 hin1 y = tile_run.sl.gather3 A d L hin1 y := by
      have := View.read_writes_cons_emb (Val := Elt F) (rowsV).view t0 (Rect.whole S128x128) (tile_run.sl.gather3 A d L hin1)
        [⟨Rect.whole S128x128, tile_run.sl.gather1 A d L hin0⟩] y
      rwa [Rect.emb_whole_apply] at this
    rw [e]
    exact gathered_apply A d L h 1 _ _ (tab_read A d _ _) _ (fun x => list_read A d L _ _ rfl 1 _ _ x) _ _ y
  have p0 := Entails.of_eq (block0_pts A d L _ e0)
  have p1 := Entails.of_eq (block1_pts A d L _ e1)
  ihave HO0 := p0 $$ HO0
  ihave HO1 := p1 $$ HO1
  sl_close

end Tile

end Cert.KernelIdeal.Tile

end
-- ==== Proof.KernelLaunch.lean ====
/-
  The launch of the SparseCore lookup, for any arrays it may be called on: what a tile is dealt and hands back, the
  tile's obligation, and the arrays as the parts of the 32 tiles.
-/
module

public import proofs.«01_k».proof.Proof.KernelTile

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} (A : Args F)

local notation "𝕄" => MT nD τ sig (HIx 1) (Elt F) ℕ UU ℕ

/-! ## A tile's parts of the three arrays -/

/-- The tile `(c, i)` as one of 32. -/
def wk (c : Fin 2) (i : Fin 16) : Fin 32 := ⟨2 * i.val + c.val, by omega⟩
/-- A tile's first and second block of the result. -/
def blk (w : Fin 32) (j : Fin 2) : Fin 64 := ⟨2 * w.val + j.val, by omega⟩

/-- Tile `w`'s page of the indices, its share of the table, its two blocks of the result at contents `f`. -/
def piece (d : Dev nD) (f : Buf (Elt F) (outLoc d)) (w : Fin 32) : sProp 𝕄 :=
  iprop((idxLoc d ↦[(page w).set]{fullShare} A.idx d) ∗ (tabLoc d ↦{share w} A.tab d)
    ∗ (outLoc d ↦[(block (blk w 0)).set]{fullShare} f) ∗ (outLoc d ↦[(block (blk w 1)).set]{fullShare} f))

instance piece_storable (d : Dev nD) (f : Buf (Elt F) (outLoc d)) (w : Fin 32) : BI.Storable (upEmb : UEmb _ 𝕄) (piece A d f w) := by
  unfold piece; infer_instance

/-! ## The tile's obligation -/

section Body

variable (d : Dev nD) (L : grid1.Coords)

/-- The tile's coordinates as one of 32. -/
abbrev wL (L : grid1.Coords) : Fin 32 := wk ⟨(L 0).val, (L 0).isLt⟩ ⟨(L 1).val, (L 1).isLt⟩

/-- The page that the body slices is the tile's page, -/
theorem pageK_eq : pageK L = page (wL L) := by
  unfold pageK page Rect.part Rect.block
  congr 1 <;> funext a
  · rw [k1_off1_eq]
    fin_cases a <;> simp [Shape.partIx, Shape.partSize, wL, wk]
  · fin_cases a <;> simp [Shape.partSize]

/-- its first block is the first of the tile's two, -/
theorem blockK0_eq : blockK0 L = block (blk (wL L) 0) := by
  unfold blockK0 block Rect.part Rect.block
  have hk := k1_off2_eq L 0
  congr 1 <;> funext a
  · rw [show k1_off2 L 0#32 = _ from hk]
    fin_cases a <;> simp [Shape.partIx, Shape.partSize, wL, wk, blk] <;> omega
  · fin_cases a <;> simp [Shape.partSize]

/-- and its second block the second. -/
theorem blockK1_eq : blockK1 L = block (blk (wL L) 1) := by
  unfold blockK1 block Rect.part Rect.block
  have hk := k1_off2_eq L 1
  congr 1 <;> funext a
  · rw [show k1_off2 L 128#32 = _ from hk]
    fin_cases a <;> simp [Shape.partIx, Shape.partSize, wL, wk, blk] <;> omega
  · fin_cases a <;> simp [Shape.partSize]

/-- So the page the body names has the page's entries, -/
theorem set_pageV : (pageV L).view.set = (page (wL L)).set := by
  show (((idxV).view.slice (pageK L)).reshape S2x128 squeezes_S1x2x128_S2x128.numel_eq).set = _
  rw [View.set_reshape, View.set_slice, ← pageK_eq]
  exact Finset.map_refl
/-- the first block the first block's, -/
theorem set_blockV0 : (blockV0 L).view.set = (block (blk (wL L) 0)).set := by
  show ((outV).view.slice (blockK0 L)).set = _
  rw [View.set_slice, ← blockK0_eq]
  exact Finset.map_refl
/-- and the second block the second's. -/
theorem set_blockV1 : (blockV1 L).view.set = (block (blk (wL L) 1)).set := by
  show ((outV).view.slice (blockK1 L)).set = _
  rw [View.set_slice, ← blockK1_eq]
  exact Finset.map_refl

/-- A tile's four parts in the body's spelling. -/
theorem piece_eq (f : Buf (Elt F) (outLoc d)) : piece A d f (wL L)
    = iprop(((pageV L).view.loc (VT d L) ↦[(pageV L).view.set]{fullShare} A.idx d)
        ∗ ((tabV).view.loc (VT d L) ↦{share (wL L)} A.tab d)
        ∗ ((blockV0 L).view.loc (VT d L) ↦[(blockV0 L).view.set]{fullShare} f)
        ∗ ((blockV1 L).view.loc (VT d L) ↦[(blockV1 L).view.set]{fullShare} f)) := by
  rw [set_pageV, set_blockV0, set_blockV1]; rfl

/-- The tile's list of indices, whole, -/
theorem pts_listV (f : Buf (Elt F) ((VT d L).loc cc1_scratch0)) :
    ((listV).view.loc (VT d L) ↦[(listV).view.set]{fullShare} f : sProp 𝕄) = (VT d L).loc cc1_scratch0 ↦{fullShare} f := by
  rw [View.set_whole]
/-- and its buffer of rows, whole. -/
theorem pts_rowsV (f : Buf (Elt F) ((VT d L).loc cc1_scratch1)) :
    ((rowsV).view.loc (VT d L) ↦[(rowsV).view.set]{fullShare} f : sProp 𝕄) = (VT d L).loc cc1_scratch1 ↦{fullShare} f := by
  rw [View.set_whole]

/-- The tile's DMA counter `k` as a cell of the machine. -/
def dcell (d : Dev nD) (L : grid1.Coords) (k : Fin 4) : GSem nD τ sig := (VT d L, SemLoc.dma (csem (8 + k.val) (by omega)))

/-- These counters are among the tile's own. -/
theorem dcell_mem (k : Fin 4) : dcell d L k ∈ ownCells (VT d L) :=
  mem_ownCells.mpr ⟨rfl, (show ∀ k : Fin 4, (SemLoc.dma (csem (8 + k.val) (by omega)) : SemLoc sig).isScoped .scVector = true by decide) k⟩

/-- The tile's four counters out of all its own. -/
theorem ownSems0_V : (ownSems0 (VT d L) : sProp 𝕄)
    = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [dcell, SemLoc.dma.injEq, Fin.mk.injEq] at this; exact Fin.ext (by omega))]
  rw [show (Finset.univ : Finset (Fin 4)) = {0, 1, 2, 3} by decide,
    SparseCore.bigSep_insert' (by decide), SparseCore.bigSep_insert' (by decide), SparseCore.bigSep_insert' (by decide), bigSep_singleton]
  rfl

/-- The tile's two scratch buffers out of all its own. -/
theorem ownBufs_V : (ownBufs (VT d L) : sProp 𝕄)
    = iprop((∃ f, (VT d L).loc cc1_scratch0 ↦{fullShare} f) ∗ (∃ f, (VT d L).loc cc1_scratch1 ↦{fullShare} f)
        ∗ bigSep (((ownRefs (τ := τ) (.scVector (coreOf L) (tileOf L))).erase ((Proc.scVector (coreOf L) (tileOf L)).devRef cc1_scratch0)).erase
            ((Proc.scVector (coreOf L) (tileOf L)).devRef cc1_scratch1))
            fun b => iprop(∃ f, ((d, b) : Loc nD τ sig) ↦{fullShare} f)) := by
  unfold SparseCore.Cfg.ownBufs
  refine (SparseCore.bigSep_erase' (SparseCore.Cfg.mem_ownRefs_of_owner (p := Proc.scVector (coreOf L) (tileOf L))
    (b := (Proc.scVector (coreOf L) (tileOf L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (coreOf L) (tileOf L)) (b := (Proc.scVector (coreOf L) (tileOf L)).devRef cc1_scratch1) rfl⟩)]

variable [FloatOps F]

/-- A tile's task from what the launch deals it to what it hands back, its two blocks holding the result's rows. -/
theorem tile_body (h : InRange A) (O : CellTallies nD τ sig (HIx 1)) (W : Waits sig (HIx 1)) (hO : ∀ g, O g none = 0) :
    iprop(levAts (K (F := F)).L (K (F := F)).lev ∗ emp ∗ piece A d (A.old d) (wL L)
        ∗ scopedBufs (VT d L) ∗ scopedSems0 (VT d L) ∗ owes (VT d L) O W)
      ⊢ wp frame (wpE (defs₀ (F := F)) 𝒱₀ (VT d L) none) Set.univ
          (cc1_gk L tabV (Memref.isWhole_whole _) idxV (Memref.isWhole_whole _) outV (Memref.isWhole_whole _)
            listV (Memref.isWhole_whole _) rowsV (Memref.isWhole_whole _) cc1_scratch2 cc1_scoped0 cc1_scoped1 cc1_scoped2)
          fun _ => iprop(piece A d (res A d) (wL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (coreOf L) (tileOf L), SparseCore.Cfg.scopedSems0_V (Val := Elt F) d (coreOf L) (tileOf L), ownSems0_V, ownBufs_V,
    piece_eq, piece_eq]
  iintro ⟨#Hlv, -, ⟨Hi, Hx, Ho0, Ho1⟩, ⟨⟨%g0, HG⟩, ⟨%t0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (pts_listV (F := F) d L _).symm) $$ HG
  ihave HT' := (Entails.of_eq (pts_rowsV (F := F) d L _).symm) $$ HT
  iapply (wp_wand_r Idealize.ShloMosaic.frame (wpE (defs₀ (F := F)) 𝒱₀ (VT d L) none) Set.univ)
  isplitl [Hi Hx Ho0 Ho1 HG' HT' HC HO]
  · iapply (tile_run A d L h O W (share (wL L)) g0 t0)
    isplitr; · iexact Hmw
    isplitl [Hi]; · iexact Hi
    isplitl [Hx]; · iexact Hx
    isplitl [Ho0]; · iexact Ho0
    isplitl [Ho1]; · iexact Ho1
    isplitl [HG']; · iexact HG'
    isplitl [HT']; · iexact HT'
    isplitl [HC]; · iexact HC
    iexact HO
  iintro %_ ⟨Hi, Hx, Ho0, Ho1, ⟨%g, HG'⟩, ⟨%t, HT'⟩, HC, ⟨%W', HO⟩⟩
  isplitl [Hi Hx Ho0 Ho1]
  · isplitl [Hi]; · iexact Hi
    isplitl [Hx]; · iexact Hx
    isplitl [Ho0]; · iexact Ho0
    iexact Ho1
  isplitl [HG' HT' Hbufs]
  · isplitl [HG']; · iexists _; iapply (Entails.of_eq (pts_listV (F := F) d L _)); iexact HG'
    isplitl [HT']; · iexists _; iapply (Entails.of_eq (pts_rowsV (F := F) d L _)); iexact HT'
    iexact Hbufs
  isplitl [HC Hsems]
  · isplitl [HC]; · iexact HC
    iexact Hsems
  iexists W'; isplitr
  · ipureintro
    intro p _
    rcases hp : p.2 with _ | q
    · exact Or.inr (Or.inl rfl)
    · exact Or.inr (Or.inr (congrArg some (Subsingleton.elim q 0)))
  · iexact HO

end Body

variable [FloatOps F]

/-! ## What the call hands over -/

/-- The call runs on two SparseCores, -/
theorem nCore_zero : (K (F := F)).nCore 0 = 2 := rfl
/-- on sixteen tiles of each. -/
theorem nSub_zero : (K (F := F)).nSub 0 = 16 := rfl

/-- A SparseCore takes its sixteen tiles' parts and brings them back, the result's blocks filled in. -/
def P : (K (F := F)).Pay (nD := nD) (Val := Elt F) (Name := ℕ) (U := UU) where
  st := fun q d c => match q with
    | 0 => bigSep Finset.univ fun i : Fin ((K (F := F)).nSub 0) => piece A d (A.old d) (wk (Fin.cast nCore_zero c) (Fin.cast nSub_zero i))
  dn := fun q d c => match q with
    | 0 => bigSep Finset.univ fun i : Fin ((K (F := F)).nSub 0) => piece A d (res A d) (wk (Fin.cast nCore_zero c) (Fin.cast nSub_zero i))
  go := fun q d c i => match q with
    | 0 => piece A d (A.old d) (wk (Fin.cast nCore_zero c) (Fin.cast nSub_zero i))
  td := fun q d c i => match q with
    | 0 => piece A d (res A d) (wk (Fin.cast nCore_zero c) (Fin.cast nSub_zero i))
  x := fun _ _ => iprop(emp)

instance P_storable : (P A).IsStorable where
  st q d c := match q with
    | 0 => (inferInstance : BI.Storable (upEmb : UEmb _ 𝕄) (bigSep Finset.univ fun i : Fin ((K (F := F)).nSub 0) => piece A d (A.old d) (wk (Fin.cast nCore_zero c) (Fin.cast nSub_zero i))))
  dn q d c := match q with
    | 0 => (inferInstance : BI.Storable (upEmb : UEmb _ 𝕄) (bigSep Finset.univ fun i : Fin ((K (F := F)).nSub 0) => piece A d (res A d) (wk (Fin.cast nCore_zero c) (Fin.cast nSub_zero i))))
  go q d c i := match q with
    | 0 => piece_storable A d _ _
  td q d c i := match q with
    | 0 => piece_storable A d _ _

/-- What a SparseCore takes is its tiles' parts, and their parts brought back are what it brings back. -/
theorem vecSplit : (K (F := F)).VecSplit' (P A) 0 := by
  intro d c
  show (bigSep Finset.univ fun i : Fin ((K (F := F)).nSub 0) => piece A d (A.old d) (wk (Fin.cast nCore_zero c) (Fin.cast nSub_zero i)))
    ⊢ |={Set.univ}=> iprop(
      (bigSep Finset.univ fun i : Fin ((K (F := F)).nSub 0) => piece A d (A.old d) (wk (Fin.cast nCore_zero c) (Fin.cast nSub_zero i)))
      ∗ ((bigSep Finset.univ fun i : Fin ((K (F := F)).nSub 0) => piece A d (res A d) (wk (Fin.cast nCore_zero c) (Fin.cast nSub_zero i)))
          -∗ (bigSep Finset.univ fun i : Fin ((K (F := F)).nSub 0) => piece A d (res A d) (wk (Fin.cast nCore_zero c) (Fin.cast nSub_zero i)))))
  iintro H; imodintro
  isplitl [H]; · iexact H
  iintro H; iexact H

/-- The tile's coordinates from its SparseCore and its place there. -/
def coordsV (c : Fin (grid1.bound 0)) (s : Fin (grid1.bound 1)) : grid1.Coords :=
  fun | 0 => c | 1 => s | ⟨_ + 2, h⟩ => absurd h (Nat.not_lt.2 (Nat.le_add_left _ _))

/-- A tile's row of the table is the body at the tile's coordinates. -/
theorem defs₀_vector (c : Fin τ.nSC) (s : Fin τ.nSub) :
    defs₀ (F := F) (.scVector c s) 1 ()
      = SparseCore.onTile hcore1 hsub1 (fun c s => cc1_gk (coordsV c s) tabV (Memref.isWhole_whole _) idxV (Memref.isWhole_whole _)
          outV (Memref.isWhole_whole _) listV (Memref.isWhole_whole _) rowsV (Memref.isWhole_whole _) cc1_scratch2 cc1_scoped0 cc1_scoped1
          cc1_scoped2) ⟨⟩ c s := rfl

set_option maxRecDepth 16384 in
/-- The body meets what the launch asks of a tile. -/
theorem tileObl (h : InRange A) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) h O W hO

/-! ## The three arrays as the tiles' parts -/

omit [FloatOps F] in
/-- The index array is its pages. -/
theorem idx_pages (d : Dev nD) (f : Buf (Elt F) (idxLoc d)) :
    (idxLoc d ↦{fullShare} f : sProp 𝕄) = bigSep Finset.univ fun w : Fin 32 => idxLoc d ↦[(page w).set]{fullShare} f := by
  rw [← pointsTo_biUnion Finset.univ (ℓ := idxLoc d) (fun w : Fin 32 => (page w).set) (fun i _ j _ h => Rect.part_disjoint idx_div h),
    Rect.biUnion_part idx_div]

omit [FloatOps F] in
/-- The result is its 64 blocks, two to a tile. -/
theorem out_blocks (d : Dev nD) (f : Buf (Elt F) (outLoc d)) :
    (outLoc d ↦{fullShare} f : sProp 𝕄) = bigSep Finset.univ fun w : Fin 32 =>
      iprop((outLoc d ↦[(block (blk w 0)).set]{fullShare} f) ∗ (outLoc d ↦[(block (blk w 1)).set]{fullShare} f)) := by
  have e : (outLoc d ↦{fullShare} f : sProp 𝕄) = bigSep Finset.univ fun b : Fin 64 => outLoc d ↦[(block b).set]{fullShare} f := by
    rw [← pointsTo_biUnion Finset.univ (ℓ := outLoc d) (fun b : Fin 64 => (block b).set) (fun i _ j _ h => Rect.part_disjoint out_div h),
      Rect.biUnion_part out_div]
  rw [e, bigSep_univ_equiv (finProdFinEquiv (m := 32) (n := 2)), bigSep_univ_prod]
  refine bigSep_congr fun w _ => ?_
  have e0 : ∀ j : Fin 2, finProdFinEquiv (m := 32) (n := 2) (w, j) = blk w j := fun j =>
    Fin.ext (show j.val + 2 * w.val = 2 * w.val + j.val from Nat.add_comm _ _)
  rw [bigSep_fin_two, e0, e0]
  rfl

omit [FloatOps F] in
/-- The table is a share for each tile. -/
theorem tab_shares (d : Dev nD) (f : Buf (Elt F) (tabLoc d)) :
    (tabLoc d ↦{fullShare} f : sProp 𝕄) = bigSep Finset.univ fun w : Fin 32 => tabLoc d ↦{share w} f :=
  Transfers.pointsTo_deal Finset.univ ⟨0, Finset.mem_univ _⟩ fullShare

omit [FloatOps F] in
/-- Over the 32 tiles is over the two SparseCores and the sixteen tiles of each. -/
theorem bigSep_wk (Φ : Fin 32 → sProp 𝕄) :
    bigSep Finset.univ Φ = bigSep Finset.univ fun c : Fin 2 => bigSep Finset.univ fun i : Fin 16 => Φ (wk c i) := by
  rw [bigSep_univ_equiv ((Equiv.prodComm (Fin 2) (Fin 16)).trans (finProdFinEquiv (m := 16) (n := 2))), bigSep_univ_prod]
  refine bigSep_congr fun c _ => bigSep_congr fun i _ => congrArg Φ (Fin.ext ?_)
  show c.val + 2 * i.val = 2 * i.val + c.val
  exact Nat.add_comm _ _

omit [FloatOps F] in
/-- The three arrays, whole, are the tiles' parts. -/
theorem whole_eq (d : Dev nD) (f : Buf (Elt F) (outLoc d)) :
    (iprop((idxLoc d ↦{fullShare} A.idx d) ∗ (tabLoc d ↦{fullShare} A.tab d) ∗ (outLoc d ↦{fullShare} f)) : sProp 𝕄)
      = bigSep Finset.univ fun c : Fin 2 => bigSep Finset.univ fun i : Fin 16 => piece A d f (wk c i) := by
  rw [← bigSep_wk (fun w => piece A d f w)]
  unfold piece
  rw [bigSep_sep', bigSep_sep', ← out_blocks, ← idx_pages, ← tab_shares]

/-- What the call takes of the three arrays is all of them, as they were; -/
theorem st_eq (d : Dev nD) : (bigSep Finset.univ fun c : Fin ((K (F := F)).nCore 0) => (P A).st 0 d c)
    = iprop((idxLoc d ↦{fullShare} A.idx d) ∗ (tabLoc d ↦{fullShare} A.tab d) ∗ (outLoc d ↦{fullShare} A.old d)) :=
  (whole_eq A d (A.old d)).symm
/-- what it brings back is all of them, the result filled in. -/
theorem dn_eq (d : Dev nD) : (bigSep Finset.univ fun c : Fin ((K (F := F)).nCore 0) => (P A).dn 0 d c)
    = iprop((idxLoc d ↦{fullShare} A.idx d) ∗ (tabLoc d ↦{fullShare} A.tab d) ∗ (outLoc d ↦{fullShare} res A d)) :=
  (whole_eq A d (res A d)).symm

end Cert.KernelIdeal.Tile

end
-- ==== Proof.KernelRegion.lean ====
/-
  The whole kernel's TensorCore call, from any contents of the TensorCore's buffers: the body's run on the blocks of a
  point, the data of the pipeline, and the call's step inside the program that launches the SparseCores too.
-/
module

public import proofs.«01_k».proof.Proof.KernelTile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameTail
public import Idealize.ShloMosaic.Lib.Pipeline.RegionArrays
public import Idealize.ShloMosaic.Lib.SparseCore.Threads
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the buffers of each TensorCore when the call begins
variable (B : Dev nD → Valuation τ sig (Elt F))

/-! ## The body on the blocks of one point -/

/-- Each block that the body loads or stores, whole. -/
abbrev q0 : Rect S2048x32 := Rect.unit (s := S2048x32) ![0, 0] S2048x32.size inb_S2048x32_S2048x32_0_0
abbrev q1 : Rect S2048x1 := Rect.unit (s := S2048x1) ![0, 0] S2048x1.size inb_S2048x1_S2048x1_0_0
abbrev q2 : Rect S8192x32 := Rect.unit (s := S8192x32) ![0, 0] S8192x32.size inb_S8192x32_S8192x32_0_0
abbrev q3 : Rect S1x8192 := Rect.unit (s := S1x8192) ![0, 0] S1x8192.size inb_S1x8192_S1x8192_0_0
abbrev q4 : Rect S2048 := Rect.unit (s := S2048) ![0] S2048.size inb_S2048_S2048_0

/-- What the body stores, of what it loads. -/
def picked (y0 : Vec F S2048x32 .f32) (y2 : Vec F S8192x32 .f32) (y1 : Vec F S2048x1 .f32) (y3 : Vec F S1x8192 .f32) : Vec F S2048 .i32 :=
  k0_pay1 (k0_pay2 y0 y2 y1 y3) (k0_pay3 (F := F)) (k0_pay6 y0 y2 y1 y3) (k0_pay8 y0 y2 y1 y3) (k0_pay9 y0 y2 y1 y3) (k0_pay10 y0 y2 y1 y3)

/-- What the block of the indices holds after the body, of the blocks it is handed. -/
def stored (x0 : Vec F S2048x32 .f32) (x1 : Vec F S2048x1 .f32) (x2 : Vec F S8192x32 .f32) (x3 : Vec F S1x8192 .f32) : Vec F S2048 .i32 :=
  View.canon [⟨q4, picked (View.ld x0 q0) (View.ld x2 q2) (View.ld x1 q1) (View.ld x3 q3)⟩]

/-- The body's one store fills its block. -/
theorem q4_covers (p : Vec F S2048 .i32) (y : S2048.Idx) : ∃ pc ∈ ([⟨q4, p⟩] : List (View.Piece (Elt F) S2048 .i32)), y ∈ pc.1.set :=
  View.cover_of_tiled [⟨q4, p⟩] S2048.size (by rfl) y

set_option maxHeartbeats 1000000 in
/-- The body's run: from its four inputs' blocks, which it leaves as they are, and the block of the indices, which it
    leaves at `stored` of them. -/
theorem body_run (d : Dev nD) (i : grid0.Coords) (a1 : Memref sig .tc .vmem S2048x32 .f32) (h1 : a1.IsWhole)
    (a2 : Memref sig .tc .vmem S2048x1 .f32) (h2 : a2.IsWhole) (a3 : Memref sig .tc .vmem S8192x32 .f32) (h3 : a3.IsWhole)
    (a4 : Memref sig .tc .vmem S1x8192 .f32) (h4 : a4.IsWhole) (a5 : Memref sig .tc .vmem S2048 .i32) (h5 : a5.IsWhole)
    (x0 : Vec F S2048x32 .f32) (x1 : Vec F S2048x1 .f32) (x2 : Vec F S8192x32 .f32) (x3 : Vec F S1x8192 .f32) (Q : PUnit → sProp 𝕄) :
    iprop((owns (d : Thread nD τ) a1 fullShare x0 ∗ owns (d : Thread nD τ) a2 fullShare x1 ∗ owns (d : Thread nD τ) a3 fullShare x2
          ∗ owns (d : Thread nD τ) a4 fullShare x3 ∗ (∃ y, owns (d : Thread nD τ) a5 fullShare y))
        ∗ (iprop(owns (d : Thread nD τ) a1 fullShare x0 ∗ owns (d : Thread nD τ) a2 fullShare x1 ∗ owns (d : Thread nD τ) a3 fullShare x2
          ∗ owns (d : Thread nD τ) a4 fullShare x3 ∗ owns (d : Thread nD τ) a5 fullShare (stored x0 x1 x2 x3)) -∗ Q ⟨⟩))
      ⊢ wp frame (wpE (defs₀ (F := F)) 𝒱₀ d none) Set.univ (cc0__vq_body i a1 h1 a2 h2 a3 h3 a4 h4 a5 h5) Q := by
  simp only [cc0__vq_body_eq_skeleton]
  unfold cc0__vq_body_skel
  simp only [k0_part1_eq_skeleton]
  unfold owns
  iintro ⟨⟨⟨%g0, %e0, H0⟩, ⟨%g1, %e1, H1⟩, ⟨%g2, %e2, H2⟩, ⟨%g3, %e3, H3⟩, ⟨%y, %g4, -, H4⟩⟩, Hk⟩
  subst e0 e1 e2 e3
  sl_exec
  sl_step
  iapply Hk
  isplitl [H0]
  · iexists g0; isplitr; · ipureintro; rfl
    iexact H0
  isplitl [H1]
  · iexists g1; isplitr; · ipureintro; rfl
    iexact H1
  isplitl [H2]
  · iexists g2; isplitr; · ipureintro; rfl
    iexact H2
  isplitl [H3]
  · iexists g3; isplitr; · ipureintro; rfl
    iexact H3
  iexists _; isplitr
  swap; · iexact H4
  ipureintro
  exact View.read_writes_eq_canon _ _ _ (q4_covers _)

/-! ## The data of the pipeline -/

/-- Window `w`'s block at point `t` of its array as the call finds it. -/
def handed (d : Dev nD) (w : Fin cfg0.W) (t : Fin cfg0.N) : ((cfg0.win w).xblock (cfg0.grid.coords t)).Idx → Elt F (cfg0.win w).elt :=
  ((cfg0.win w).blk t).view.read (Elt F) (B d (Proc.devRef .tc (Pipeline.arrRef spec0 w)))

/-- The waits that a core may have recorded before the first call on the SparseCores. -/
def early (d : Dev nD) : Set (SemLoc sig × HIx 1) := {p | (K (F := F)).lev ((T d : Thread nD τ), p.1) p.2 ≤ 0}

/-- The pipeline's data: its arrays as the call finds them; each input's block in place after the body, the indices'
    block at `stored` of the four. The core owes the SparseCores' starts all along. -/
def dat (d : Dev nD) : Dat τ (Elt F) (HIx 1) ℕ UU ℕ cfg0 d where
  A w := B d (Proc.devRef .tc (Pipeline.arrRef spec0 w))
  after w t := match w with
    | ⟨0, _⟩ => handed B d 0 t
    | ⟨1, _⟩ => handed B d 1 t
    | ⟨2, _⟩ => handed B d 2 t
    | ⟨3, _⟩ => handed B d 3 t
    | ⟨4, _⟩ => stored (handed B d 0 t) (handed B d 1 t) (handed B d 2 t) (handed B d 3 t)
  Φ _ := iprop(emp)
  q _ := fullShare
  owed _ := (K (F := F)).Otc d 0
  recorded _ := early (F := F) d

/-- Each array begins as the buffers say. -/
theorem dat_A (d : Dev nD) (w : Fin cfg0.W) : (dat B d).A w = B d (Proc.devRef .tc (Pipeline.arrRef spec0 w)) := by dsimp only [dat]
/-- After the body the inputs' staging buffers hold their blocks, -/
theorem after_0 (d : Dev nD) (t : Fin cfg0.N) : (dat B d).after 0 t = handed B d 0 t := by dsimp only [dat]
theorem after_1 (d : Dev nD) (t : Fin cfg0.N) : (dat B d).after 1 t = handed B d 1 t := by dsimp only [dat]
theorem after_2 (d : Dev nD) (t : Fin cfg0.N) : (dat B d).after 2 t = handed B d 2 t := by dsimp only [dat]
theorem after_3 (d : Dev nD) (t : Fin cfg0.N) : (dat B d).after 3 t = handed B d 3 t := by dsimp only [dat]
/-- and the output's what the body stores. -/
theorem after_4 (d : Dev nD) (t : Fin cfg0.N) :
    (dat B d).after 4 t = stored (handed B d 0 t) (handed B d 1 t) (handed B d 2 t) (handed B d 3 t) := by dsimp only [dat]

/-- An input's staging buffer holds its block before the body, fetched at this point or at an earlier one. -/
theorem before_0 (d : Dev nD) (t : Fin cfg0.N) (y) : (dat B d).before 0 t y = handed B d 0 t :=
  ((dat B d).before_in_eq_fetched 0 rfl (fun _ => rfl) (fun _ _ _ => rfl)
    (fun t => by rw [after_0]; unfold Dat.blockOf handed; rw [dat_A]) t y).trans (by unfold Dat.fetched Dat.blockOf handed; rw [dat_A]; try rfl)
theorem before_1 (d : Dev nD) (t : Fin cfg0.N) (y) : (dat B d).before 1 t y = handed B d 1 t :=
  ((dat B d).before_in_eq_fetched 1 rfl (fun _ => rfl) (fun _ _ _ => rfl)
    (fun t => by rw [after_1]; unfold Dat.blockOf handed; rw [dat_A]) t y).trans (by unfold Dat.fetched Dat.blockOf handed; rw [dat_A]; try rfl)
theorem before_2 (d : Dev nD) (t : Fin cfg0.N) (y) : (dat B d).before 2 t y = handed B d 2 t :=
  ((dat B d).before_in_eq_fetched 2 rfl (fun _ => rfl) (fun _ _ _ => rfl)
    (fun t => by rw [after_2]; unfold Dat.blockOf handed; rw [dat_A]) t y).trans (by unfold Dat.fetched Dat.blockOf handed; rw [dat_A]; try rfl)
theorem before_3 (d : Dev nD) (t : Fin cfg0.N) (y) : (dat B d).before 3 t y = handed B d 3 t :=
  ((dat B d).before_in_eq_fetched 3 rfl (fun _ => rfl) (fun _ _ _ => rfl)
    (fun t => by rw [after_3]; unfold Dat.blockOf handed; rw [dat_A]) t y).trans (by unfold Dat.fetched Dat.blockOf handed; rw [dat_A]; try rfl)

/-! ## The body's obligation -/

/-- What the body is handed at point `t`, -/
def given (d : Dev nD) (t : Fin cfg0.N) : sProp 𝕄 :=
  iprop((dat B d).Φ t.castSucc ∗ (dat B d).owesAt none t.castSucc
    ∗ (∃ y, owns (d : Thread nD τ) (st0_0 t) fullShare ((dat B d).before 0 t y))
    ∗ (∃ y, owns (d : Thread nD τ) (st0_1 t) fullShare ((dat B d).before 1 t y))
    ∗ (∃ y, owns (d : Thread nD τ) (st0_2 t) fullShare ((dat B d).before 2 t y))
    ∗ (∃ y, owns (d : Thread nD τ) (st0_3 t) fullShare ((dat B d).before 3 t y))
    ∗ (∃ y, owns (d : Thread nD τ) (st0_4 t) fullShare ((dat B d).before 4 t y)))
/-- and what it hands back. -/
def returned (d : Dev nD) (t : Fin cfg0.N) : sProp 𝕄 :=
  iprop((dat B d).Φ t.succ ∗ (dat B d).owesAt none t.succ
    ∗ owns (d : Thread nD τ) (st0_0 t) fullShare ((dat B d).after 0 t)
    ∗ owns (d : Thread nD τ) (st0_1 t) fullShare ((dat B d).after 1 t)
    ∗ owns (d : Thread nD τ) (st0_2 t) fullShare ((dat B d).after 2 t)
    ∗ owns (d : Thread nD τ) (st0_3 t) fullShare ((dat B d).after 3 t)
    ∗ owns (d : Thread nD τ) (st0_4 t) fullShare ((dat B d).after 4 t))

/-- The body's run at a point. -/
theorem point_run (d : Dev nD) (t : Fin cfg0.N) :
    given B d t ⊢ wp frame (wpE (defs₀ (F := F)) 𝒱₀ d none) Set.univ (bodyAt0 t) (fun _ => returned B d t) := by
  unfold given returned bodyAt0
  simp only [before_0, before_1, before_2, before_3]
  rw [show (dat B d).Φ t.succ = (dat B d).Φ t.castSucc from rfl,
    show (dat B d).owesAt none t.succ = (dat B d).owesAt none t.castSucc from rfl, after_0, after_1, after_2, after_3, after_4]
  iintro ⟨HΦ, Ho, ⟨%y0, H0⟩, ⟨%y1, H1⟩, ⟨%y2, H2⟩, ⟨%y3, H3⟩, ⟨%y4, H4⟩⟩
  iapply (body_run d (grid0.coords t) _ _ _ _ _ _ _ _ _ _ (handed B d 0 t) (handed B d 1 t) (handed B d 2 t) (handed B d 3 t) _)
  isplitl [H0 H1 H2 H3 H4]
  · isplitl [H0]; · iexact H0
    isplitl [H1]; · iexact H1
    isplitl [H2]; · iexact H2
    isplitl [H3]; · iexact H3
    iexists _; iexact H4
  iintro H
  isplitl [HΦ]; · iexact HΦ
  isplitl [Ho]; · iexact Ho
  iexact H

/-- The body's row of the table is the body at the point's staging buffers. -/
theorem row_eq (t : Fin cfg0.N) : defs₀ (F := F) .tc cfg0.body (cfg0.bodyArgs t (cfg0.slots t)) = bodyAt0 t := by
  rfl

/-- The body meets what the pipeline asks at every point. -/
theorem obligation (d : Dev nD) : BodyObligation (dat B d) (defs₀ (F := F)) 𝒱₀ none Set.univ := fun t => by
  rw [bigSep_W0, bigSep_W0, row_eq]
  exact triple_restated (point_run B d t) rfl .rfl fun _ => .rfl

/-! ## The call's step -/

/-- No pipeline of the program has a table fetched ahead of it. -/
abbrev adm : (p : Fin 1) → (pcfgs (F := F) p).Adm := fun p => (cfgs p).toPCfg_adm
/-- The data of the program's one pipeline. -/
abbrev pdats (p : Fin 1) (d : Dev nD) : Dat τ (Elt F) (HIx 1) ℕ UU ℕ (Pipeline.pin (pcfgs (F := F)) adm p) d := dat B d

/-- The cells of the pipeline's staging buffers are apart. -/
theorem pinj : Function.Injective (cellOf (nD := nD) (τ := τ) (Pipeline.pin (pcfgs (F := F)) adm)) := cellOf_inj

/-- The buffers when the call has ended: the indices' array at the pipeline's result, the others as they were. -/
def called (d : Dev nD) : Valuation τ sig (Elt F) :=
  Function.update (B d) (Proc.devRef .tc main_v8) ((dat B d).arrAt 4 cfg0.N)

/-- What the core holds beside its buffers: what it owes, its waits recorded so far below the first call's. -/
def owing (d : Dev nD) : sProp 𝕄 :=
  iprop(∃ W, ⌜(K (F := F)).WBelow (T d) W 0⌝ ∗ owes (T d : Thread nD τ) ((K (F := F)).Otc d 0) W)

/-- The core owes no wait that no call numbers. -/
theorem owed_none (d : Dev nD) (g : GSem nD τ sig) : (K (F := F)).Otc d 0 g none = 0 := by
  by_contra h
  have := SparseCore.Cfg.lev_of_Otc_pos (K := K (F := F)) (Nat.pos_of_ne_zero h)
  exact absurd this (by show ¬ 0 + 1 ≤ 0; omega)

/-- What the core owes goes into the pipeline, -/
theorem owing_in (d : Dev nD) (t : Fin (cfg0.N + 1)) : owing (F := F) d ⊢ (dat B d).owesAt none t := by
  unfold owing Pipeline.Dat.owesAt Pipeline.owesWithin Pipeline.Dat.bound
  iintro ⟨%W, %hW, H⟩
  iexists W
  isplitr
  · ipureintro; exact fun p hp => Or.inl (hW p hp)
  iexact H

/-- and comes out of it. -/
theorem owing_out (d : Dev nD) (t : Fin (cfg0.N + 1)) : (dat B d).owesAt none t ⊢ owing (F := F) d := by
  unfold owing Pipeline.Dat.owesAt Pipeline.owesWithin Pipeline.Dat.bound
  iintro ⟨%W, %hW, H⟩
  iexists W
  isplitr
  · ipureintro
    intro p hp
    rcases hW hp with h | ⟨w, s, h⟩
    · exact h
    · rw [h]; exact le_rfl
  iexact H

/-- The five arrays of the call among the core's buffers. -/
theorem arrays_sub : Pipeline.arrRefs (τ := τ) spec0 ⊆ Pipeline.ucRefs τ sig := Pipeline.arrRefs_sub_ucRefs spec0 (by decide)

/-- Each array of the call is among its arrays. -/
theorem mem_arrays (w : Fin 5) : Proc.devRef .tc (Pipeline.arrRef spec0 w) ∈ Pipeline.arrRefs (τ := τ) spec0 :=
  Finset.mem_map.mpr ⟨_, Finset.mem_image.mpr ⟨w, Finset.mem_univ _, rfl⟩, rfl⟩

/-- The call leaves its four inputs. -/
theorem called_ne (d : Dev nD) (w : Fin 5) (hw : w ≠ 4) :
    called B d (Proc.devRef .tc (Pipeline.arrRef spec0 w)) = B d (Proc.devRef .tc (Pipeline.arrRef spec0 w)) :=
  Function.update_of_ne (by revert w; decide) _ _

/-- Each array ends as the pipeline leaves it. -/
theorem called_arr (d : Dev nD) (w : Fin cfg0.W) :
    (dat B d).arrAt w cfg0.N = called B d (Proc.devRef .tc (Pipeline.arrRef spec0 w)) := by
  match w with
  | 0 => exact ((dat B d).arrAt_in 0 rfl _).trans ((dat_A B d 0).trans (called_ne B d 0 (by decide)).symm)
  | 1 => exact ((dat B d).arrAt_in 1 rfl _).trans ((dat_A B d 1).trans (called_ne B d 1 (by decide)).symm)
  | 2 => exact ((dat B d).arrAt_in 2 rfl _).trans ((dat_A B d 2).trans (called_ne B d 2 (by decide)).symm)
  | 3 => exact ((dat B d).arrAt_in 3 rfl _).trans ((dat_A B d 3).trans (called_ne B d 3 (by decide)).symm)
  | 4 => exact (Function.update_self (Proc.devRef .tc main_v8) ((dat B d).arrAt 4 cfg0.N) (B d)).symm

/-- The call's arrays when it begins are buffers of the core, -/
theorem entry_eq (d : Dev nD) :
    ((dat B d).arrays ((dat B d).arrAt · 0) : sProp 𝕄) = StableHlo.held (d : Thread nD τ) (Pipeline.arrRefs (τ := τ) spec0) (B d) :=
  Pipeline.arrays_held (pcfgs (F := F)) adm (pdats B) 0 (launch0.toP) d ((dat B d).share_full fun _ => rfl) _ _ fun w => dat_A B d w
/-- and so they are when it ends. -/
theorem exit_eq (d : Dev nD) :
    ((dat B d).arrays ((dat B d).arrAt · cfg0.N) : sProp 𝕄) = StableHlo.held (d : Thread nD τ) (Pipeline.arrRefs (τ := τ) spec0) (called B d) :=
  Pipeline.arrays_held (pcfgs (F := F)) adm (pdats B) 0 (launch0.toP) d ((dat B d).share_full fun _ => rfl) _ _ fun w => called_arr B d w

/-- The core's other buffers are as they were. -/
theorem rest_eq (d : Dev nD) :
    (StableHlo.held (d : Thread nD τ) (Pipeline.ucRefs τ sig \ Pipeline.arrRefs (τ := τ) spec0) (B d) : sProp 𝕄)
      = StableHlo.held (d : Thread nD τ) (Pipeline.ucRefs τ sig \ Pipeline.arrRefs (τ := τ) spec0) (called B d) :=
  StableHlo.held_congr (d : Thread nD τ) fun b hb =>
    (Function.update_of_ne (fun e : b = Proc.devRef .tc main_v8 => (Finset.mem_sdiff.mp hb).2 (by rw [e]; exact mem_arrays 4)) _ _).symm

/-- The call as a region of the program: entered with the core's buffers at `B`, left with them at `called B`. -/
def region : Pipeline.RegionSeg (pcfgs (F := F)) adm (pdats B) none defs₀ 𝒱₀ (K (F := F)).L (K (F := F)).lev 0 where
  win := winFacts0.to₀
  block_pos := block_pos0
  stage_whole := stage_whole0
  K := PEmpty
  osem k := k.elim
  ho := Pipeline.OwnSemFacts.none _
  hbody d := (obligation B d).loose
  hwaits d := Pipeline.cellsWaits_intro _ _ _ _ _ fun w s t => (K (F := F)).mayWait_none _ (owed_none d)
  pre d := iprop(StableHlo.held (d : Thread nD τ) (Pipeline.ucRefs τ sig) (B d) ∗ owing d)
  post d := iprop(StableHlo.held (d : Thread nD τ) (Pipeline.ucRefs τ sig) (called B d) ∗ owing d)
  X _ := iprop(emp)
  Y _ := iprop(emp)
  Z d := StableHlo.held (d : Thread nD τ) (Pipeline.ucRefs τ sig \ Pipeline.arrRefs (τ := τ) spec0) (B d)
  hentry d := by
    rw [Pipeline.ownSems0_none, StableHlo.held_sub_split (d : Thread nD τ) arrays_sub, Pipeline.prefHeld_of_none _ rfl]
    iintro ⟨⟨⟨Ha, Hr⟩, Ho⟩, -, -⟩
    imodintro
    isplitl [Ha]; · iapply (Entails.of_eq (entry_eq B d).symm); iexact Ha
    isplitr; · iempintro
    isplitl [Ho]; · iapply (owing_in B d 0); iexact Ho
    isplitr; · iempintro
    iexact Hr
  hin d := by
    iintro -
    iempintro
  hout d := by
    rw [Pipeline.ownSems0_none, scopedRest0_eq]
    iintro -
    isplitr; · iempintro
    isplitr <;> iempintro
  hexit d := by
    rw [StableHlo.held_sub_split (d : Thread nD τ) arrays_sub (called B d)]
    iintro ⟨Ha, Ho, -, Hr⟩
    imodintro
    isplitl [Ha Hr]
    · isplitl [Ha]; · iapply (Entails.of_eq (exit_eq B d)); iexact Ha
      iapply (Entails.of_eq (rest_eq B d)); iexact Hr
    iapply (owing_out B d (Fin.last _)); iexact Ho

/-- The ghost state of the pipeline's cells at launch. -/
abbrev started (d : Dev nD) : sProp 𝕄 :=
  iprop(Pipeline.cellsGhost (Pipeline.pin (pcfgs (F := F)) adm) EP 0 d ∗ Pipeline.toksInit (Pipeline.pin (pcfgs (F := F)) adm) EP 0 d)

/-- The call in the program without the SparseCores, -/
def inner : Prog (TpuEff nD τ sig (Elt F) (ΛP (F := F)) .tc) PUnit := .op (.customCall (Pipeline.entry 0) ()) fun _ => .ret ⟨⟩
/-- and in the program with them. -/
def outer : Prog (TpuEff nD τ sig (Elt F) (SparseCore.Sig (ΛP (F := F)) 1) .tc) PUnit :=
  Prog.lift (.customCall (SparseCore.inner (Pipeline.entry 0)) ())

/-- The second is the first carried over. -/
theorem outer_eq : outer (F := F) = SparseCore.liftProg (inner (F := F)) := by
  rfl

/-- A run of the first is a run of the second. -/
theorem call_lift (d : Dev nD) (Q : PUnit → sProp 𝕄) :
    wp frame (wpE (D (F := F)) 𝒱 (T d : Thread nD τ) none) Set.univ inner Q
      ⊢ wp frame (wpE ((K (F := F)).defs (D (F := F))) 𝒱 (T d) none) Set.univ outer Q := by
  rw [outer_eq]
  exact (K (F := F)).wp_liftProg (D (F := F)) 𝒱 (T d) Set.univ none inner Q

set_option maxHeartbeats 4000000 in
/-- The call's run in the program without the SparseCores. -/
theorem inner_run [∀ e, Nonempty (Elt F e)] (d : Dev nD) (Q : PUnit → sProp 𝕄) :
    iprop((iprop(boundary (d.tc : Thread nD τ) ∗ (region B).post d)
            -∗ wp frame (wpE (D (F := F)) 𝒱 (d.tc : Thread nD τ) none) Set.univ (.ret ⟨⟩) Q)
        ∗ boundary (d.tc : Thread nD τ) ∗ (region B).pre d ∗ levAts (K (F := F)).L (K (F := F)).lev ∗ started d)
      ⊢ wp frame (wpE (D (F := F)) 𝒱 (d.tc : Thread nD τ) none) Set.univ inner Q :=
  Pipeline.RegionSeg.wp (pcfgs (F := F)) adm (pdats B) none pinj EP defs₀ 𝒱₀ (K (F := F)).L (K (F := F)).lev
    (region B) d none (fun u h => nomatch h) (fun _ => .ret ⟨⟩) Q

/-- The call's step: the core's buffers at `B` before it, at `called B` after it. -/
theorem region_run [∀ e, Nonempty (Elt F e)] (d : Dev nD) (Q : PUnit → sProp 𝕄) :
    iprop((boundary (T d : Thread nD τ) ∗ StableHlo.held (d : Thread nD τ) (Pipeline.ucRefs τ sig) (B d) ∗ owing d
          ∗ levAts (K (F := F)).L (K (F := F)).lev ∗ started d)
        ∗ (iprop(boundary (T d : Thread nD τ) ∗ StableHlo.held (d : Thread nD τ) (Pipeline.ucRefs τ sig) (called B d) ∗ owing d) -∗ Q ⟨⟩))
      ⊢ wp frame (wpE ((K (F := F)).defs (D (F := F))) 𝒱 (T d) none) Set.univ outer Q := by
  refine BIBase.Entails.trans ?_ (call_lift d Q)
  refine BIBase.Entails.trans ?_ (inner_run B d Q)
  rw [show (region B).post d = iprop(StableHlo.held (d : Thread nD τ) (Pipeline.ucRefs τ sig) (called B d) ∗ owing d) from rfl,
    show (region B).pre d = iprop(StableHlo.held (d : Thread nD τ) (Pipeline.ucRefs τ sig) (B d) ∗ owing d) from rfl]
  iintro ⟨⟨Hb, Hh, Ho, Hl, Hc, Ht⟩, Hk⟩
  isplitl [Hk]
  · iintro ⟨Hb, Hh, Ho⟩
    rw [wp_ret]
    imodintro
    iapply Hk
    isplitl [Hb]; · iexact Hb
    isplitl [Hh] <;> iassumption
  isplitl [Hb]; · iexact Hb
  isplitl [Hh Ho]
  · isplitl [Hh]
    · iexact Hh
    iexact Ho
  isplitl [Hl]; · iexact Hl
  isplitl [Hc] <;> iassumption

end Cert.KernelIdeal.Tile

end
-- ==== Proof.KernelRun.lean ====
/-
  The whole kernel's run, from any memory for which the indices that the TensorCore's call leaves are in range: every
  buffer of a TensorCore ends as the host's operations, the TensorCore's call and the SparseCores' call leave it.
-/
module

public import proofs.«01_k».proof.Proof.KernelLaunch
public import proofs.«01_k».proof.Proof.KernelRegion

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## @main in five parts -/

/-- The host's operations before the TensorCore's call, -/
abbrev ops0 : List (HloOp τ sig (Elt F)) :=
  [ StableHlo.binary main_arg0 main_arg0 main_v0 (mulf : (⟨S8192x32, .f32⟩ : BufTy).Contents (Elt F) → (⟨S8192x32, .f32⟩ : BufTy).Contents (Elt F) → (⟨S8192x32, .f32⟩ : BufTy).Contents (Elt F)),
    StableHlo.nullary main_cst (constant S_ .f32 0x00000000#32),
    StableHlo.binary main_v0 main_cst main_v1 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v1 main_v2 (broadcastInDim S8192x1 ![0] bcast_S8192_S8192x1_0 : (⟨S8192, .f32⟩ : BufTy).Contents (Elt F) → (⟨S8192x1, .f32⟩ : BufTy).Contents (Elt F)),
    StableHlo.binary main_arg1 main_arg1 main_v3 (mulf : (⟨S8192x32, .f32⟩ : BufTy).Contents (Elt F) → (⟨S8192x32, .f32⟩ : BufTy).Contents (Elt F) → (⟨S8192x32, .f32⟩ : BufTy).Contents (Elt F)),
    StableHlo.nullary main_cst_0 (constant S_ .f32 0x00000000#32),
    StableHlo.binary main_v3 main_cst_0 main_v4 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.unary main_v4 main_v5 (broadcastInDim S1x8192 ![1] bcast_S8192_S1x8192_1 : (⟨S8192, .f32⟩ : BufTy).Contents (Elt F) → (⟨S1x8192, .f32⟩ : BufTy).Contents (Elt F)),
    StableHlo.nullary main_cst_1 (constant S_ .f32 0xC0000000#32),
    StableHlo.unary main_cst_1 main_v6 (broadcastInDim S8192x32 ![] bcast_S_S8192x32 : (⟨S_, .f32⟩ : BufTy).Contents (Elt F) → (⟨S8192x32, .f32⟩ : BufTy).Contents (Elt F)),
    StableHlo.binary main_arg0 main_v6 main_v7 (mulf : (⟨S8192x32, .f32⟩ : BufTy).Contents (Elt F) → (⟨S8192x32, .f32⟩ : BufTy).Contents (Elt F) → (⟨S8192x32, .f32⟩ : BufTy).Contents (Elt F)) ]
/-- between the two calls, -/
abbrev ops1 : List (HloOp τ sig (Elt F)) :=
  [ StableHlo.reshape main_v8 main_v9 (rfl : (.i32 : EltTy) = .i32) shapeCasts_S8192_S32x2x128,
    StableHlo.nullary main_cst_2 (constant S_ .f32 0x00000000#32),
    StableHlo.unary main_cst_2 main_v10 (broadcastInDim S8192x128 ![] bcast_S_S8192x128 : (⟨S_, .f32⟩ : BufTy).Contents (Elt F) → (⟨S8192x128, .f32⟩ : BufTy).Contents (Elt F)),
    StableHlo.nullary main_c (constantI S_ 32 0#32),
    StableHlo.unary main_c main_v11 (broadcastInDim S1 ![] bcast_S_S1 : (⟨S_, .i32⟩ : BufTy).Contents (Elt F) → (⟨S1, .i32⟩ : BufTy).Contents (Elt F)),
    StableHlo.ternary main_v10 main_v11 main_arg1 main_v12 ((fun x i u => Host.scatter scatter_S8192x128_S1_S8192x32_01_n_1_0 (fun _ b => b) x i u) : (⟨S8192x128, .f32⟩ : BufTy).Contents (Elt F) → (⟨S1, .i32⟩ : BufTy).Contents (Elt F) → (⟨S8192x32, .f32⟩ : BufTy).Contents (Elt F) → (⟨S8192x128, .f32⟩ : BufTy).Contents (Elt F)) ]
/-- and after the SparseCores' call. -/
abbrev ops2 : List (HloOp τ sig (Elt F)) :=
  [ StableHlo.unary main_v13 main_v14 ((extractStridedSlice S8192x32 ![0, 0] · slices_S8192x128_S8192x32_0_0) : (⟨S8192x128, .f32⟩ : BufTy).Contents (Elt F) → (⟨S8192x32, .f32⟩ : BufTy).Contents (Elt F)) ]

/-- @main is these parts in order. -/
theorem main_eq (d : Dev nD) : main (F := F) d
    = (StableHlo.seq ops0 >>= fun _ => outer >>= fun _ => StableHlo.seq ops1 >>= fun _ => (sc (F := F)).run d 0 >>= fun _ =>
        StableHlo.seq ops2 >>= fun _ => pure ⟨⟩) := by
  chain_rfl

variable (m : (ℓ : Loc nD τ sig) → Buf (Elt F) ℓ) (ρ : Dev nD → PrngReg)

/-- The TensorCore's buffers at launch, -/
def V₀ (d : Dev nD) : Valuation τ sig (Elt F) := fun b => m (d, b)
/-- when the TensorCore's call begins, -/
@[irreducible] def V₁ (d : Dev nD) : Valuation τ sig (Elt F) := StableHlo.after ops0 (V₀ m d)
/-- The definition, spelt out. -/
theorem V₁_eq (d : Dev nD) : V₁ m d = StableHlo.after ops0 (V₀ m d) := by unfold V₁; rfl
/-- when it has ended, -/
@[irreducible] def V₂ (d : Dev nD) : Valuation τ sig (Elt F) := called (V₁ m) d
/-- The definition, spelt out. -/
theorem V₂_eq (d : Dev nD) : V₂ m d = called (V₁ m) d := by unfold V₂; rfl
/-- when the SparseCores' call begins, -/
@[irreducible] def V₃ (d : Dev nD) : Valuation τ sig (Elt F) := StableHlo.after ops1 (V₂ m d)
/-- The definition, spelt out. -/
theorem V₃_eq (d : Dev nD) : V₃ m d = StableHlo.after ops1 (V₂ m d) := by unfold V₃; rfl
/-- What the SparseCores' call is made on. -/
def args : Args F where
  tab d := V₃ m d (Proc.devRef .tc main_v12)
  idx d := V₃ m d (Proc.devRef .tc main_v9)
  old d := V₃ m d (Proc.devRef .tc main_v13)
/-- when it has ended, -/
def V₄ (d : Dev nD) : Valuation τ sig (Elt F) := Function.update (V₃ m d) (Proc.devRef .tc main_v13) (res (args m) d)
/-- and at the end. -/
@[irreducible] def V₅ (d : Dev nD) : Valuation τ sig (Elt F) := StableHlo.after ops2 (V₄ m d)
/-- The definition, spelt out. -/
theorem V₅_eq (d : Dev nD) : V₅ m d = StableHlo.after ops2 (V₄ m d) := by unfold V₅; rfl

/-- The three arrays of the SparseCores' call among the TensorCore's buffers. -/
abbrev three : Finset (DevRef τ sig) := {Proc.devRef .tc main_v9, Proc.devRef .tc main_v12, Proc.devRef .tc main_v13}

/-- They are among its buffers. -/
theorem three_sub : three ⊆ Pipeline.ucRefs τ sig := by
  intro b hb
  simp only [three, Finset.mem_insert, Finset.mem_singleton] at hb
  rcases hb with rfl | rfl | rfl <;> exact Finset.mem_filter.mpr ⟨StableHlo.devRef_mem_tcRefs _, by decide⟩

omit [FloatOps F] in
/-- The TensorCore's buffers are the three arrays and the others. -/
theorem held_eq (d : Dev nD) (W : Valuation τ sig (Elt F)) :
    (StableHlo.held (d.tc : Thread nD τ) (Pipeline.ucRefs τ sig) W : sProp 𝕄)
      = iprop(((idxLoc d ↦{fullShare} W (Proc.devRef .tc main_v9)) ∗ (tabLoc d ↦{fullShare} W (Proc.devRef .tc main_v12))
          ∗ (outLoc d ↦{fullShare} W (Proc.devRef .tc main_v13)))
          ∗ StableHlo.held (d.tc : Thread nD τ) (Pipeline.ucRefs τ sig \ three) W) := by
  rw [StableHlo.held_sub_split (d.tc : Thread nD τ) three_sub W]
  congr 1
  unfold StableHlo.held three
  rw [SparseCore.bigSep_insert' (by decide), SparseCore.bigSep_insert' (by decide), bigSep_singleton]

/-- After the SparseCores' call the index array is as it was, -/
theorem V₄_idx (d : Dev nD) : V₄ m d (Proc.devRef .tc main_v9) = (args m).idx d := Function.update_of_ne (by decide) _ _
/-- so is the padded codebook, -/
theorem V₄_tab (d : Dev nD) : V₄ m d (Proc.devRef .tc main_v12) = (args m).tab d := Function.update_of_ne (by decide) _ _
/-- and the result array holds the result. -/
theorem V₄_out (d : Dev nD) : V₄ m d (Proc.devRef .tc main_v13) = res (args m) d := Function.update_self _ _ _

/-- The buffers when the call has ended, put together again. -/
theorem held_V₄ (d : Dev nD) :
    (StableHlo.held (d.tc : Thread nD τ) (Pipeline.ucRefs τ sig) (V₄ m d) : sProp 𝕄)
      = iprop(((idxLoc d ↦{fullShare} (args m).idx d) ∗ (tabLoc d ↦{fullShare} (args m).tab d)
          ∗ (outLoc d ↦{fullShare} res (args m) d))
          ∗ StableHlo.held (d.tc : Thread nD τ) (Pipeline.ucRefs τ sig \ three) (V₃ m d)) := by
  rw [held_eq, StableHlo.held_congr (d.tc : Thread nD τ) (S := Pipeline.ucRefs τ sig \ three) (V := V₄ m d) (V' := V₃ m d) fun b hb =>
    Function.update_of_ne (fun e => (Finset.mem_sdiff.mp hb).2 (by simp [three, e])) _ _]
  rw [V₄_idx, V₄_tab, V₄_out]

/-- The host's operations name only buffers of the TensorCore. -/
theorem ops0_sub : ∀ op ∈ (ops0 : List (HloOp τ sig (Elt F))), op.bufs ⊆ Pipeline.ucRefs τ sig := by
  intro op h
  refine Pipeline.sub_ucRefs op ?_
  fin_cases h
  exacts [StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub ..]
/-- The host's operations name only buffers of the TensorCore. -/
theorem ops1_sub : ∀ op ∈ (ops1 : List (HloOp τ sig (Elt F))), op.bufs ⊆ Pipeline.ucRefs τ sig := by
  intro op h
  refine Pipeline.sub_ucRefs op ?_
  fin_cases h
  exacts [StableHlo.reshape_bufs_sub .., StableHlo.nullary_bufs_sub .., StableHlo.unary_bufs_sub .., StableHlo.nullary_bufs_sub .., StableHlo.unary_bufs_sub .., StableHlo.ternary_bufs_sub ..]
/-- The host's operations name only buffers of the TensorCore. -/
theorem ops2_sub : ∀ op ∈ (ops2 : List (HloOp τ sig (Elt F))), op.bufs ⊆ Pipeline.ucRefs τ sig := by
  intro op h
  refine Pipeline.sub_ucRefs op ?_
  fin_cases h
  exacts [StableHlo.unary_bufs_sub ..]

/-! ## The ghost state the launch begins with -/

/-- The SparseCores' handshakes, the pipeline's cells, and the counts of the tiles' copies. -/
def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- It gives what the launch asks for, and what the pipeline begins with. -/
theorem hu₀ (A : Args F) : (ownU (u₀ (F := F)) : sProp 𝕄)
    ⊢ |={Set.univ}=> iprop(BI.own (EH (initOf (K (F := F)).hsCells (K (F := F)).hsToks)) ∗ (bigSep Finset.univ fun d : Dev nD => started d)
        ∗ bigSep Finset.univ fun thr : Thread nD τ => bigSep Finset.univ fun q : Fin 1 => (P A).x q thr) := by
  have e : ∀ (I : Type) (s : Finset I), (bigSep s fun _ => iprop(emp)) = (iprop(emp) : sProp 𝕄) := fun _ s => bigSep_emp_const s
  have ec : (bigSep Finset.univ fun d : Dev nD => bigSep Finset.univ fun p : Fin 1 => Pipeline.cellsGhost (Pipeline.pin (pcfgs (F := F)) adm) EP p d : sProp 𝕄)
      = bigSep Finset.univ fun d : Dev nD => Pipeline.cellsGhost (Pipeline.pin (pcfgs (F := F)) adm) EP 0 d :=
    bigSep_congr fun _ _ => bigSep_univ_of_subsingleton (0 : Fin 1)
  have et : (bigSep Finset.univ fun d : Dev nD => bigSep Finset.univ fun p : Fin 1 => Pipeline.toksInit (Pipeline.pin (pcfgs (F := F)) adm) EP p d : sProp 𝕄)
      = bigSep Finset.univ fun d : Dev nD => Pipeline.toksInit (Pipeline.pin (pcfgs (F := F)) adm) EP 0 d :=
    bigSep_congr fun _ _ => bigSep_univ_of_subsingleton (0 : Fin 1)
  unfold u₀
  iintro Hu
  ihave H := (ownU_pair (initOf (K (F := F)).hsCells (K (F := F)).hsToks) _) $$ Hu
  icases H with ⟨HH, HR⟩
  ihave HR' := (own_pair_emb embR _ _) $$ HR
  icases HR' with ⟨HP, -⟩
  imod (Pipeline.fund_ghost (Pipeline.pin (pcfgs (F := F)) adm) EP pinj) $$ HP with ⟨Hc, Ht⟩
  imodintro
  isplitl [HH]; · iexact HH
  isplitl [Hc Ht]
  · rw [bigSep_sep']
    isplitl [Hc]
    · iapply (Entails.of_eq ec); iexact Hc
    · iapply (Entails.of_eq et); iexact Ht
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), e]
  iempintro

/-! ## The run -/

set_option maxRecDepth 16384 in
/-- @main on a TensorCore: from its buffers at launch to its buffers at the end. -/
theorem hmain [∀ e, Nonempty (Elt F e)] (κ : GSem nD τ sig → ℕ) (d : Dev nD) :
    iprop((K (F := F)).ctx EH (P (args m)) κ ∗ (K (F := F)).tcSt EH d 0 ∗ (K (F := F)).tcRes m ρ d ∗ started d)
      ⊢ wp frame (wpE ((K (F := F)).defs (D (F := F))) 𝒱 (SparseCore.T d) none) Set.univ (main d)
          fun _ => iprop((K (F := F)).tcSt EH d 1 ∗ StableHlo.held (d.tc : Thread nD τ) (Pipeline.ucRefs τ sig) (V₅ m d) ∗ (K (F := F)).tcEnd d) := by
  have hlev := SparseCore.Cfg.ctx_levAts (K := K (F := F)) (EH := EH) (P := P (args m)) κ (lv := (K (F := F)).lev)
  unfold SparseCore.Cfg.tcRes SparseCore.Cfg.tcEnd
  rw [show (unscopedBufs d (fun b => m ((SparseCore.T d : Thread nD τ).loc b)) : sProp 𝕄) = StableHlo.held (d.tc : Thread nD τ) (Pipeline.ucRefs τ sig) (V₀ m d) from
    Pipeline.unscopedBufs_held d (V₀ m d), main_eq]
  iintro ⟨#Hctx, Hst, ⟨Hb, Hh, Hts, -⟩, Hg⟩
  iapply (StableHlo.wp_seq 𝒱 none Set.univ d (Pipeline.ucRefs τ sig) _ ops0 ops0_sub (by intro op h; fin_cases h <;> rfl) (V₀ m d)) $$ [Hb Hh]
  · isplitl [Hb] <;> iassumption
  rw [← V₁_eq]
  iintro ⟨Hb, Hh⟩
  rw [wp_bind]
  ihave Hst' := (Entails.of_eq (show (K (F := F)).tcSt EH d 0 = iprop(owing d ∗ _) from rfl)) $$ Hst
  icases Hst' with ⟨Ho, Hst⟩
  ihave Hl := hlev $$ Hctx
  iapply (region_run (V₁ m) d _)
  isplitl [Hb Hh Ho Hl Hg]
  · isplitl [Hb]; · iexact Hb
    isplitl [Hh]; · iexact Hh
    isplitl [Ho]; · iexact Ho
    isplitl [Hl]; · iexact Hl
    iexact Hg
  rw [← V₂_eq]
  iintro ⟨Hb, Hh, Ho⟩
  ihave Hst := (Entails.of_eq (show iprop(owing d ∗ _) = (K (F := F)).tcSt EH d 0 from rfl)) $$ [Ho Hst]
  · isplitl [Ho]; · iexact Ho
    iexact Hst
  iapply (StableHlo.wp_seq 𝒱 none Set.univ d (Pipeline.ucRefs τ sig) _ ops1 ops1_sub (by intro op h; fin_cases h <;> rfl) (V₂ m d)) $$ [Hb Hh]
  · isplitl [Hb] <;> iassumption
  rw [← V₃_eq]
  iintro ⟨Hb, Hh⟩
  ihave Hh' := (Entails.of_eq (held_eq d _)) $$ Hh
  icases Hh' with ⟨H3, Hh⟩
  rw [wp_bind]
  iapply ((K (F := F)).wp_run (D (F := F)) 𝒱 (EH := EH) (P := P (args m)) κ d 0) $$ [Hst H3 Hh Hb Hts]
  isplitr; · iexact Hctx
  isplitl [Hst]; · iexact Hst
  isplitl [H3]
  · rw [st_eq]; iexact H3
  iintro ⟨Hst, Hdn⟩
  ihave Hdn' := (Entails.of_eq (dn_eq (args m) d)) $$ Hdn
  ihave Hh' := (Entails.of_eq (held_V₄ m d).symm) $$ [Hdn' Hh]
  · isplitl [Hdn']; · iexact Hdn'
    iexact Hh
  iapply (StableHlo.wp_seq 𝒱 none Set.univ d (Pipeline.ucRefs τ sig) _ ops2 ops2_sub (by intro op h; fin_cases h <;> rfl) (V₄ m d)) $$ [Hb Hh']
  · isplitl [Hb] <;> iassumption
  rw [← V₅_eq]
  iintro ⟨Hb, Hh⟩
  rw [wp_pure]
  imodintro
  isplitl [Hst]; · iexact Hst
  isplitl [Hh]; · iexact Hh
  isplitl [Hb] <;> iassumption

/-- What a buffer of the TensorCore holds at the end. -/
def fq (d : Dev nD) (s' : Phys nD τ sig (Elt F)) : Prop :=
  ∀ b ∈ Pipeline.ucRefs τ sig, s'.mem.mem (d, b) = V₅ m d b

/-- Holding the buffers so, the memory holds them so. -/
theorem hfin (d : Dev nD) (s' : Phys nD τ sig (Elt F)) :
    iprop(StableHlo.held (d.tc : Thread nD τ) (Pipeline.ucRefs τ sig) (V₅ m d) ∗ SI s') ⊢ (⌜fq m d s'⌝ : sProp 𝕄) := by
  intro x hx b hb
  have h := ((sep_mono (bigSep_elim hb) .rfl).trans (sep_comm.1.trans
    (SI_pointsTo_agree (st := s') (ℓ := (d, b)) (I := Finset.univ) (q := fullShare) (f := V₅ m d b)))) x hx
  exact funext fun i => h i (Finset.mem_univ i)

/-- The program's run: every buffer of a TensorCore ends as the operations leave it, every counter at zero. -/
theorem run_main [∀ e, Nonempty (Elt F e)] (h : InRange (args m)) :
    θ_run (Cert.KernelIdeal.defs (F := F)) (Cert.KernelIdeal.threads (F := F)) ⟨m, fun _ => 0, ρ⟩
      (fun r => (∀ c : Dev nD, ∀ b ∈ Pipeline.ucRefs τ sig, r.2.mem (c, b) = V₅ m c b) ∧ r.2.sem = fun _ => 0) :=
  SparseCore.Cfg.θ_run_sc_quiescent (K := K (F := F)) (D := D (F := F)) (𝒱 := 𝒱) (EH := EH) (P := P (args m)) (A := ∅) facts v₀
    (fun q hq => match q with | 0 => nomatch hq)
    (fun q _ => match q with | 0 => tileObl (args m) h)
    (fun q _ => match q with | 0 => SparseCore.Cfg.VecSplit.of_plain (vecSplit (args m)))
    m ρ main started (fun d => StableHlo.held (d.tc : Thread nD τ) (Pipeline.ucRefs τ sig) (V₅ m d)) (u₀ (F := F))
    (sep_elim_left.trans (hu₀ (args m))) (hmain m ρ) (fq m) (hfin m) _ (fun _ h hz => ⟨h, hz⟩)

end Cert.KernelIdeal.Tile

end
-- ==== Proof.FirstMin.lean ====
/-
  The position of the first least entry of a finite row of extended reals, and the two ways of
  finding it: a left fold keeping the better of two (entry, position) pairs, and a run over
  consecutive windows of the row, each window giving its own least entry and the least position
  holding it, a later window winning only by a strictly smaller entry.
-/
module

public import Idealize.ShloMosaic.PureOps.Ideal.Laws

@[expose] public section

namespace Cert.FirstMin

open Idealize.ShloMosaic

/-- `k` is the first position below `n` at which `d` is least. -/
def At (d : ℕ → EReal) (n k : ℕ) : Prop :=
  k < n ∧ (∀ j < n, d k ≤ d j) ∧ ∀ j < k, d k < d j

/-- There is only one such position. -/
theorem At.unique {d : ℕ → EReal} {n k l : ℕ} (hk : At d n k) (hl : At d n l) : k = l := by
  rcases lt_trichotomy k l with h | h | h
  · exact absurd (hl.2.2 k h) (not_lt.2 (hk.2.1 l hl.1))
  · exact h
  · exact absurd (hk.2.2 l h) (not_lt.2 (hl.2.1 k hk.1))

/-- Rows that agree below `n` have the same first least position. -/
theorem At.congr {d e : ℕ → EReal} {n k : ℕ} (h : ∀ j < n, d j = e j) (hk : At d n k) : At e n k := by
  refine ⟨hk.1, fun j hj => ?_, fun j hj => ?_⟩
  · rw [← h k hk.1, ← h j hj]; exact hk.2.1 j hj
  · rw [← h k hk.1, ← h j (hj.trans hk.1)]; exact hk.2.2 j hj

/-- The least value of a nonempty finite family, as a fold of `min` from the greatest extended real. -/
theorem fold_min_eq {n : ℕ} (f : Fin n → EReal) (k : Fin n) (hk : ∀ j, f k ≤ f j) :
    (Finset.univ : Finset (Fin n)).fold min ⊤ f = f k := by
  apply le_antisymm
  · exact (Finset.fold_min_le _).2 (Or.inr ⟨k, Finset.mem_univ _, le_rfl⟩)
  · exact (Finset.le_fold_min _).2 ⟨le_top, fun j _ => hk j⟩

/-- A nonempty window of a row has a first least position, counted from the window's start. -/
theorem exists_at (d : ℕ → EReal) {n : ℕ} (hn : 0 < n) : ∃ k, At d n k := by
  classical
  obtain ⟨m, hm, hmin⟩ := Finset.exists_min_image (Finset.range n) d ⟨0, Finset.mem_range.2 hn⟩
  have hex : ∃ k, k < n ∧ ∀ j < n, d k ≤ d j :=
    ⟨m, Finset.mem_range.1 hm, fun j hj => hmin j (Finset.mem_range.2 hj)⟩
  refine ⟨Nat.find hex, (Nat.find_spec hex).1, (Nat.find_spec hex).2, fun j hj => ?_⟩
  have h1 := Nat.find_min hex hj
  by_contra h2
  exact h1 ⟨hj.trans (Nat.find_spec hex).1, fun i hi => (not_lt.1 h2).trans ((Nat.find_spec hex).2 i hi)⟩

/-- One window of `n` entries starting at `b`: the least position (a number below the ceiling `top`)
    among those holding the window's least entry is the first least position. -/
theorem window (d : ℕ → EReal) (b n : ℕ) (top : EReal) {k : ℕ} (hk : At (fun j => d (b + j)) n k)
    (htop : ∀ j < n, ((b + j : ℕ) : EReal) ≤ top) :
    (Finset.univ : Finset (Fin n)).fold min ⊤
        (fun j : Fin n => if d (b + j) = d (b + k) then ((b + (j : ℕ) : ℕ) : EReal) else top)
      = ((b + k : ℕ) : EReal) := by
  have := fold_min_eq (fun j : Fin n => if d (b + j) = d (b + k) then ((b + (j : ℕ) : ℕ) : EReal) else top)
    ⟨k, hk.1⟩ (fun j => by
      simp only [if_true]
      split
      · rename_i h
        have : k ≤ j := by
          by_contra hlt
          exact absurd h (ne_of_gt (hk.2.2 j (not_le.1 hlt)))
        exact_mod_cast Nat.add_le_add_left this b
      · exact htop k hk.1)
  simpa using this

/-- Two consecutive stretches of a row, the first of length `b`: the first least position of the whole
    is the second's when its least entry is strictly smaller, and the first's otherwise. -/
theorem merge (d : ℕ → EReal) (b n : ℕ) {k l : ℕ} (hk : At d b k) (hl : At (fun j => d (b + j)) n l) :
    At d (b + n) (if d (b + l) < d k then b + l else k) := by
  have cover : ∀ j < b + n, j < b ∨ ∃ i < n, j = b + i := fun j hj => by
    rcases lt_or_ge j b with h | h
    · exact Or.inl h
    · exact Or.inr ⟨j - b, by omega, by omega⟩
  split
  · rename_i h
    refine ⟨by have := hl.1; omega, fun j hj => ?_, fun j hj => ?_⟩
    · rcases cover j hj with hj | ⟨i, hi, rfl⟩
      · exact h.le.trans (hk.2.1 j hj)
      · exact hl.2.1 i hi
    · rcases cover j (by have := hl.1; omega) with hj' | ⟨i, hi, rfl⟩
      · exact h.trans_le (hk.2.1 j hj')
      · exact hl.2.2 i (by omega)
  · rename_i h
    refine ⟨by have := hk.1; omega, fun j hj => ?_, hk.2.2⟩
    rcases cover j hj with hj | ⟨i, hi, rfl⟩
    · exact hk.2.1 j hj
    · exact (not_lt.1 h).trans (hl.2.1 i hi)

/-- A strict step of the running pair: the least entry so far and where it stands, against a window's. -/
theorem merge_value (d : ℕ → EReal) (b : ℕ) {k l : ℕ} :
    min (d k) (d (b + l)) = d (if d (b + l) < d k then b + l else k) := by
  split
  · rename_i h; exact min_eq_right h.le
  · rename_i h; exact min_eq_left (not_lt.1 h)

/-- The better of two (entry, position) pairs: the smaller entry, on equal entries the smaller position. -/
noncomputable def better (a b : EReal × BitVec 32) : EReal × BitVec 32 :=
  (if a.1 < b.1 then a.1 else b.1, if a.1 < b.1 ∨ (a.1 = b.1 ∧ a.2.slt b.2) then a.2 else b.2)

/-- `a` is at least as good as `b`. -/
def Le (a b : EReal × BitVec 32) : Prop := a.1 < b.1 ∨ (a.1 = b.1 ∧ a.2.toInt ≤ b.2.toInt)

/-- A pair is as good as itself. -/
theorem Le.refl (a : EReal × BitVec 32) : Le a a := Or.inr ⟨rfl, le_rfl⟩

/-- Being as good carries over. -/
theorem Le.trans {a b c : EReal × BitVec 32} (h : Le a b) (g : Le b c) : Le a c := by
  rcases h with h | ⟨h, h'⟩ <;> rcases g with g | ⟨g, g'⟩
  · exact Or.inl (h.trans g)
  · exact Or.inl (g ▸ h)
  · exact Or.inl (h ▸ g)
  · exact Or.inr ⟨h.trans g, h'.trans g'⟩

/-- The better of two is one of them and at least as good as each. -/
theorem better_cases (a b : EReal × BitVec 32) :
    (better a b = a ∨ better a b = b) ∧ Le (better a b) a ∧ Le (better a b) b := by
  by_cases h1 : a.1 < b.1
  · have : better a b = a := by simp [better, h1]
    rw [this]; exact ⟨Or.inl rfl, Le.refl a, Or.inl h1⟩
  · by_cases h2 : a.1 = b.1 ∧ a.2.slt b.2
    · have : better a b = a := Prod.ext (by simp [better, h2.1]) (by simp [better, h2])
      rw [this]
      refine ⟨Or.inl rfl, Le.refl a, Or.inr ⟨h2.1, ?_⟩⟩
      exact (BitVec.slt_iff_toInt_lt.1 h2.2).le
    · have : better a b = b := by
        refine Prod.ext (by simp [better, h1]) ?_
        have : ¬ (a.1 < b.1 ∨ (a.1 = b.1 ∧ a.2.slt b.2)) := by tauto
        simp only [better, if_neg this]
      rw [this]
      refine ⟨Or.inr rfl, ?_, Le.refl b⟩
      rcases lt_or_eq_of_le (not_lt.1 h1) with h | h
      · exact Or.inl h
      · refine Or.inr ⟨h, ?_⟩
        by_contra hc
        exact h2 ⟨h.symm, BitVec.slt_iff_toInt_lt.2 (not_le.1 hc)⟩

/-- Folding `better` from `a` ends at `a` or at one of the list's pairs, and at one as good as all of them. -/
theorem foldl_better (l : List (EReal × BitVec 32)) (a : EReal × BitVec 32) :
    (l.foldl better a = a ∨ l.foldl better a ∈ l) ∧ Le (l.foldl better a) a ∧ ∀ p ∈ l, Le (l.foldl better a) p := by
  induction l generalizing a with
  | nil => exact ⟨Or.inl rfl, Le.refl a, by simp⟩
  | cons b l ih =>
    obtain ⟨hm, hl, hall⟩ := ih (better a b)
    obtain ⟨hc, ha, hb⟩ := better_cases a b
    refine ⟨?_, hl.trans ha, fun p hp => ?_⟩
    · rw [List.foldl_cons]
      rcases hm with hm | hm
      · rcases hc with hc | hc
        · exact Or.inl (hm.trans hc)
        · exact Or.inr (by rw [hm, hc]; exact List.mem_cons_self ..)
      · exact Or.inr (List.mem_cons_of_mem _ hm)
    · rw [List.foldl_cons]
      rcases List.mem_cons.1 hp with rfl | hp
      · exact hl.trans hb
      · exact hall p hp

/-- The fold over a list holding exactly the pairs (entry, position) of a row of `n` entries, from the
    greatest entry at position zero, ends at the first least position. -/
theorem foldl_at (d : ℕ → EReal) {n : ℕ} (hn : 0 < n) (hn' : n ≤ 2 ^ 31) (l : List (EReal × BitVec 32))
    (hl : ∀ p, p ∈ l ↔ ∃ k < n, p = (d k, BitVec.ofNat 32 k)) :
    ∃ k, At d n k ∧ (l.foldl better (⊤, 0#32)).2 = BitVec.ofNat 32 k := by
  have toInt : ∀ k < n, (BitVec.ofNat 32 k).toInt = k := fun k hk => by
    rw [BitVec.toInt_eq_toNat_cond, BitVec.toNat_ofNat, Nat.mod_eq_of_lt (by omega), if_pos (by omega)]
  obtain ⟨hm, ha, hall⟩ := foldl_better l (⊤, 0#32)
  have hall' : ∀ j < n, Le (l.foldl better (⊤, 0#32)) (d j, BitVec.ofNat 32 j) := fun j hj =>
    hall _ ((hl _).2 ⟨j, hj, rfl⟩)
  have key : ∃ k < n, l.foldl better (⊤, 0#32) = (d k, BitVec.ofNat 32 k) := by
    rcases hm with hm | hm
    · refine ⟨0, hn, ?_⟩
      have h0 := hall' 0 hn
      rw [hm] at h0 ⊢
      rcases h0 with h0 | ⟨h0, -⟩
      · exact absurd h0 not_top_lt
      · exact Prod.ext h0 rfl
    · exact (hl _).1 hm
  obtain ⟨k, hk, e⟩ := key
  refine ⟨k, ⟨hk, fun j hj => ?_, fun j hj => ?_⟩, by rw [e]⟩
  · have h := hall' j hj
    rw [e] at h
    rcases h with h | ⟨h, -⟩
    · exact h.le
    · exact h.le
  · have h := hall' j (hj.trans hk)
    rw [e] at h
    rcases h with h | ⟨-, h⟩
    · exact h
    · rw [toInt k hk, toInt j (hj.trans hk)] at h
      omega

/-- A position below `2³¹`, read as an extended real and rounded back to a word, is itself. -/
theorem fptosi_natCast {φ : FTy} (k : ℕ) (hk : k < 2 ^ 31) :
    FloatOps.fptosi (F := Ideal) (φ := φ) 32 ((k : EReal)) = BitVec.ofNat 32 k := by
  change Ideal.fptosi 32 ((k : EReal)) = _
  have e : ((k : ℕ) : EReal) = (((k : ℝ)) : EReal) := by norm_cast
  have h : (k : ℤ) ≤ 2 ^ 31 - 1 := by omega
  rw [e, Ideal.fptosi]
  show BitVec.ofInt 32 (max _ (min _ (if 0 ≤ (k : ℝ) then ⌊(k : ℝ)⌋ else ⌈(k : ℝ)⌉))) = _
  rw [if_pos (Nat.cast_nonneg k), Int.floor_natCast]
  rw [min_eq_right (by norm_num; omega), max_eq_right (by norm_num)]
  exact BitVec.ofInt_natCast 32 k

end Cert.FirstMin
-- ==== Proof.Block.lean ====
/-
  What one run of the nearest-row kernel's body stores, over the extended reals.  The body's first
  value is a 2048 × 8192 table of distances, one row per query of the block; it then goes through four
  windows of 2048 columns, keeping the least distance so far and the position where it stands.  Here:
  the table's entries as the formula they come from (`dist_apply`), and the stored word at a query as
  the position of the first least entry of that query's row (`stored`).
-/
module

public import proofs.«01_k».proof.Proof.FirstMin
public import proofs.«01_k».proof.Proof.Gen.NearestIdeal.Skeleton
public import Idealize.ShloMosaic.Lib.Pointwise

@[expose] public section

namespace Cert.NearestIdeal.Block

open Idealize.ShloMosaic Cert.NearestIdeal Cert.NearestIdeal.Gen Cert.FirstMin

/-- A row of the table as a function of the column number, `⊤` past its end. -/
noncomputable def row (D : FVec Ideal S2048x8192 .f32) (r : Fin 2048) (j : ℕ) : EReal :=
  if h : j < 8192 then D (ix2 r ⟨j, h⟩) else ⊤

/-- Inside the table a row's function is the entry. -/
theorem row_of (D : FVec Ideal S2048x8192 .f32) (r : Fin 2048) {j : ℕ} (h : j < 8192) :
    row D r j = D (ix2 r ⟨j, h⟩) := dif_pos h

/-- The infinity pattern, and the float constants of the body. -/
theorem inf_f32 : Ideal.ofBits .f32 0x7F800000#32 = ⊤ := by simp [Ideal.ofBits, Ideal.ieee]

/-- The constants 2048, 4096, 6144 and 8192. -/
theorem ofBits_2048 : Ideal.ofBits .f32 0x45000000#32 = ((2048 : ℕ) : EReal) := by
  have : Ideal.ofBits .f32 0x45000000#32 = ((2048 : ℝ) : EReal) := by
    simp [Ideal.ofBits, Ideal.ieee, -EReal.coe_mul]; norm_num
  rw [this]; norm_cast

theorem ofBits_4096 : Ideal.ofBits .f32 0x45800000#32 = ((4096 : ℕ) : EReal) := by
  have : Ideal.ofBits .f32 0x45800000#32 = ((4096 : ℝ) : EReal) := by
    simp [Ideal.ofBits, Ideal.ieee, -EReal.coe_mul]; norm_num
  rw [this]; norm_cast

theorem ofBits_6144 : Ideal.ofBits .f32 0x45C00000#32 = ((6144 : ℕ) : EReal) := by
  have : Ideal.ofBits .f32 0x45C00000#32 = ((6144 : ℝ) : EReal) := by
    simp [Ideal.ofBits, Ideal.ieee, -EReal.coe_mul]; norm_num
  rw [this]; norm_cast

theorem ofBits_8192 : Ideal.ofBits .f32 0x46000000#32 = ((8192 : ℕ) : EReal) := by
  have : Ideal.ofBits .f32 0x46000000#32 = ((8192 : ℝ) : EReal) := by
    simp [Ideal.ofBits, Ideal.ieee, -EReal.coe_mul]; norm_num
  rw [this]; norm_cast

/-- A distance: the square root of the two squared lengths and the doubled, negated product, cut off below at zero. -/
theorem dist_apply (v0 : Vec Ideal S2048x32 .f32) (v2 : Vec Ideal S8192x32 .f32) (v4 : Vec Ideal S2048x1 .f32)
    (v6 : Vec Ideal S1x8192 .f32) (r : Fin 2048) (j : Fin 8192) :
    k0_pay2 v0 v2 v4 v6 (ix2 r j)
      = Ideal.sqrt (max (v4 (ix2 r 0) + v6 (ix2 0 j) + ∑ x : Fin 32, v0 (ix2 r x) * v2 (ix2 j x)) 0) := by
  pointwise [k0_pay2]

/-- The column numbers of a window. -/
theorem cols_apply (r j : Fin 2048) : k0_pay3 (F := Ideal) (ix2 r j) = ((j : ℕ) : EReal) := by
  pointwise [k0_pay3]
  change (((BitVec.ofNat 32 (j : ℕ)).toInt : ℝ) : EReal) = _
  have := j.isLt
  rw [BitVec.toInt_eq_toNat_cond, BitVec.toNat_ofNat, Nat.mod_eq_of_lt (by omega), if_pos (by omega)]
  norm_cast

section Windows

variable (D : FVec Ideal S2048x8192 .f32) (r : Fin 2048)

/-- A window's least entry at a row. -/
theorem min_apply (W : FVec Ideal S2048x2048 .f32) :
    multiReduction .minimumf [1] S2048 W 0x7F800000#32 reduces_S2048x2048_S2048 (.inl rfl) rfl (ix1 r)
      = (Finset.univ : Finset (Fin 2048)).fold min ⊤ fun x => W (ix2 r x) := by
  rw [← inf_f32]
  pointwise

/-- A window's positions masked to those that hold a given entry: elsewhere the ceiling 8192. -/
theorem at_apply (W C : FVec Ideal S2048x2048 .f32) (M : FVec Ideal S2048 .f32) (b : BitVec 32) (x : Fin 2048) :
    select (cmpf .oeq W (broadcastTo S2048x2048 (shapeCast S2048x1 M shapeCasts_S2048_S2048x1) broadcasts_S2048x1_S2048x2048))
        (addf C (broadcast S2048x2048 (Scalar.ofBits .f32 b))) (broadcast S2048x2048 (Scalar.ofBits .f32 0x46000000#32)) (ix2 r x)
      = if W (ix2 r x) = M (ix1 r) then C (ix2 r x) + Ideal.ofBits .f32 b else ((8192 : ℕ) : EReal) := by
  rw [← ofBits_8192]
  pointwise

/-- The window of 2048 columns from `b` on: its least entry. -/
theorem window_min (W : FVec Ideal S2048x2048 .f32) (b : ℕ) {k : ℕ} (hW : ∀ x : Fin 2048, W (ix2 r x) = row D r (b + x))
    (hk : At (fun j => row D r (b + j)) 2048 k) :
    multiReduction .minimumf [1] S2048 W 0x7F800000#32 reduces_S2048x2048_S2048 (.inl rfl) rfl (ix1 r) = row D r (b + k) := by
  rw [min_apply, fold_min_eq _ ⟨k, hk.1⟩ fun j => by rw [hW, hW]; exact hk.2.1 j j.isLt]
  exact hW ⟨k, hk.1⟩

/-- The window of 2048 columns from `b` on: the least position that holds its least entry. -/
theorem window_pos (W : FVec Ideal S2048x2048 .f32) (M : FVec Ideal S2048 .f32) (w : BitVec 32) (b : ℕ) {k : ℕ}
    (hw : Ideal.ofBits .f32 w = ((b : ℕ) : EReal)) (hb : b + 2048 ≤ 8192)
    (hW : ∀ x : Fin 2048, W (ix2 r x) = row D r (b + x)) (hM : M (ix1 r) = row D r (b + k))
    (hk : At (fun j => row D r (b + j)) 2048 k) :
    multiReduction .minimumf [1] S2048
      (select (cmpf .oeq W (broadcastTo S2048x2048 (shapeCast S2048x1 M shapeCasts_S2048_S2048x1) broadcasts_S2048x1_S2048x2048))
        (addf (k0_pay3 (F := Ideal)) (broadcast S2048x2048 (Scalar.ofBits .f32 w)))
        (broadcast S2048x2048 (Scalar.ofBits .f32 0x46000000#32)))
      0x7F800000#32 reduces_S2048x2048_S2048 (.inl rfl) rfl (ix1 r) = ((b + k : ℕ) : EReal) := by
  rw [min_apply, ← window (row D r) b 2048 ((8192 : ℕ) : EReal) hk fun j hj => by exact_mod_cast (by omega : b + j ≤ 8192)]
  refine congrArg (fun f => Finset.fold min ⊤ f Finset.univ) (funext fun x => ?_)
  rw [at_apply, hW, hM, cols_apply, hw]
  refine congrArg (fun t => if row D r (b + x) = row D r (b + k) then t else _) ?_
  rw [add_comm]; norm_cast

/-- An entry of each of the four windows is the row's entry at the window's start and on. -/
theorem slice0 (x : Fin 2048) :
    extractStridedSlice S2048x2048 ![0, 0] D slices_S2048x8192_o0_0_S2048x2048 (ix2 r x) = row D r (0 + x) := by
  rw [row_of D r (by omega)]; pointwise

theorem slice1 (x : Fin 2048) :
    extractStridedSlice S2048x2048 ![0, 2048] D slices_S2048x8192_o0_2048_S2048x2048 (ix2 r x) = row D r (2048 + x) := by
  rw [row_of D r (by omega)]; pointwise

theorem slice2 (x : Fin 2048) :
    extractStridedSlice S2048x2048 ![0, 4096] D slices_S2048x8192_o0_4096_S2048x2048 (ix2 r x) = row D r (4096 + x) := by
  rw [row_of D r (by omega)]; pointwise

theorem slice3 (x : Fin 2048) :
    extractStridedSlice S2048x2048 ![0, 6144] D slices_S2048x8192_o0_6144_S2048x2048 (ix2 r x) = row D r (6144 + x) := by
  rw [row_of D r (by omega)]; pointwise

end Windows

/-- Choosing by a strict comparison of two entries at a row. -/
theorem choose_apply {φ : FTy} (a b : FVec Ideal S2048 .f32) (x y : FVec Ideal S2048 φ) (r : Fin 2048) :
    select (cmpf .olt a b) x y (ix1 r) = if a (ix1 r) < b (ix1 r) then x (ix1 r) else y (ix1 r) := by
  pointwise

/-- Narrowing to bf16 and back changes nothing over the extended reals. -/
theorem round_apply (a : FVec Ideal S2048 .f32) (r : Fin 2048) :
    extf .f32 (truncf .bf16 a bitsLt_bf16_f32) bitsLt_bf16_f32 (ix1 r) = a (ix1 r) := by
  pointwise

/-- The four windows of the table of distances, their least entries and the least positions of those. -/
noncomputable def win (D : FVec Ideal S2048x8192 .f32) : Fin 4 → FVec Ideal S2048x2048 .f32
  | 0 => extractStridedSlice S2048x2048 ![0, 0] D slices_S2048x8192_o0_0_S2048x2048
  | 1 => extractStridedSlice S2048x2048 ![0, 2048] D slices_S2048x8192_o0_2048_S2048x2048
  | 2 => extractStridedSlice S2048x2048 ![0, 4096] D slices_S2048x8192_o0_4096_S2048x2048
  | 3 => extractStridedSlice S2048x2048 ![0, 6144] D slices_S2048x8192_o0_6144_S2048x2048

/-- A window's least entry in each row, -/
noncomputable def least (D : FVec Ideal S2048x8192 .f32) (w : Fin 4) : FVec Ideal S2048 .f32 :=
  multiReduction .minimumf [1] S2048 (win D w) 0x7F800000#32 reduces_S2048x2048_S2048 (.inl rfl) rfl

/-- the bits of a window's first column number, -/
def start : Fin 4 → BitVec 32
  | 0 => 0x00000000#32
  | 1 => 0x45000000#32
  | 2 => 0x45800000#32
  | 3 => 0x45C00000#32

/-- and the least column number at which a window has its least entry. -/
noncomputable def place (D : FVec Ideal S2048x8192 .f32) (w : Fin 4) : FVec Ideal S2048 .f32 :=
  multiReduction .minimumf [1] S2048
    (select (cmpf .oeq (win D w)
        (broadcastTo S2048x2048 (shapeCast S2048x1 (least D w) shapeCasts_S2048_S2048x1) broadcasts_S2048x1_S2048x2048))
      (addf (k0_pay3 (F := Ideal)) (broadcast S2048x2048 (Scalar.ofBits .f32 (start w))))
      (broadcast S2048x2048 (Scalar.ofBits .f32 0x46000000#32)))
    0x7F800000#32 reduces_S2048x2048_S2048 (.inl rfl) rfl

/-- A running value narrowed to bf16 and widened again. -/
noncomputable def round (a : FVec Ideal S2048 .f32) : FVec Ideal S2048 .f32 :=
  extf .f32 (truncf .bf16 a bitsLt_bf16_f32) bitsLt_bf16_f32

/-- The running least entry after one, two and three windows. -/
noncomputable def best1 (D : FVec Ideal S2048x8192 .f32) := round (least D 0)
/-- After two windows. -/
noncomputable def best2 (D : FVec Ideal S2048x8192 .f32) :=
  round (select (cmpf .olt (least D 1) (best1 D)) (least D 1) (best1 D))
/-- After three windows. -/
noncomputable def best3 (D : FVec Ideal S2048x8192 .f32) :=
  round (select (cmpf .olt (least D 2) (best2 D)) (least D 2) (best2 D))

/-- The position after all four. -/
noncomputable def found (D : FVec Ideal S2048x8192 .f32) : FVec Ideal S2048 .f32 :=
  select (cmpf .olt (least D 3) (best3 D)) (place D 3)
    (select (cmpf .olt (least D 2) (best2 D)) (place D 2)
      (select (cmpf .olt (least D 1) (best1 D)) (place D 1) (place D 0)))

/-- The position found at a row is that of the row's first least entry. -/
theorem found_apply (D : FVec Ideal S2048x8192 .f32) (r : Fin 2048) {k : ℕ} (hk : At (row D r) 8192 k) :
    found D (ix1 r) = ((k : ℕ) : EReal) := by
  obtain ⟨k0, h0⟩ := exists_at (fun j => row D r (0 + j)) (n := 2048) (by norm_num)
  obtain ⟨k1, h1⟩ := exists_at (fun j => row D r (2048 + j)) (n := 2048) (by norm_num)
  obtain ⟨k2, h2⟩ := exists_at (fun j => row D r (4096 + j)) (n := 2048) (by norm_num)
  obtain ⟨k3, h3⟩ := exists_at (fun j => row D r (6144 + j)) (n := 2048) (by norm_num)
  have m0 : least D 0 (ix1 r) = row D r (0 + k0) := window_min D r _ 0 (slice0 D r) h0
  have m1 : least D 1 (ix1 r) = row D r (2048 + k1) := window_min D r _ 2048 (slice1 D r) h1
  have m2 : least D 2 (ix1 r) = row D r (4096 + k2) := window_min D r _ 4096 (slice2 D r) h2
  have m3 : least D 3 (ix1 r) = row D r (6144 + k3) := window_min D r _ 6144 (slice3 D r) h3
  have p0 : place D 0 (ix1 r) = ((0 + k0 : ℕ) : EReal) :=
    window_pos D r _ _ _ 0 (by rw [start, Ideal.ofBits_zero_f32]; norm_cast) (by norm_num) (slice0 D r) m0 h0
  have p1 : place D 1 (ix1 r) = ((2048 + k1 : ℕ) : EReal) :=
    window_pos D r _ _ _ 2048 ofBits_2048 (by norm_num) (slice1 D r) m1 h1
  have p2 : place D 2 (ix1 r) = ((4096 + k2 : ℕ) : EReal) :=
    window_pos D r _ _ _ 4096 ofBits_4096 (by norm_num) (slice2 D r) m2 h2
  have p3 : place D 3 (ix1 r) = ((6144 + k3 : ℕ) : EReal) :=
    window_pos D r _ _ _ 6144 ofBits_6144 (by norm_num) (slice3 D r) m3 h3
  simp only [zero_add] at h0 m0 p0
  have b1 : best1 D (ix1 r) = row D r k0 := (round_apply _ r).trans m0
  have t1 := merge (row D r) 2048 2048 h0 h1
  generalize hq1 : (if row D r (2048 + k1) < row D r k0 then 2048 + k1 else k0) = q1 at t1
  have b2 : best2 D (ix1 r) = row D r q1 := by
    rw [best2, round, round_apply, choose_apply, m1, b1, ← hq1]; split <;> rfl
  have t2 := merge (row D r) 4096 2048 t1 h2
  generalize hq2 : (if row D r (4096 + k2) < row D r q1 then 4096 + k2 else q1) = q2 at t2
  have b3 : best3 D (ix1 r) = row D r q2 := by
    rw [best3, round, round_apply, choose_apply, m2, b2, ← hq2]; split <;> rfl
  have t3 := merge (row D r) 6144 2048 t2 h3
  rw [hk.unique t3, found, choose_apply, choose_apply, choose_apply, m1, m2, m3, b1, b2, b3, p0, p1, p2, p3, ← hq2, ← hq1]
  split_ifs <;> rfl

/-- The word stored for a query is the position of the first least entry of its row of distances. -/
theorem stored (v0 : Vec Ideal S2048x32 .f32) (v2 : Vec Ideal S8192x32 .f32) (v4 : Vec Ideal S2048x1 .f32)
    (v6 : Vec Ideal S1x8192 .f32) (r : Fin 2048) {k : ℕ} (hk : At (row (k0_pay2 v0 v2 v4 v6) r) 8192 k) :
    k0_pay1 (k0_pay2 v0 v2 v4 v6) k0_pay3 (k0_pay6 v0 v2 v4 v6) (k0_pay8 v0 v2 v4 v6) (k0_pay9 v0 v2 v4 v6)
      (k0_pay10 v0 v2 v4 v6) (ix1 r) = BitVec.ofNat 32 k := by
  have e : k0_pay1 (k0_pay2 v0 v2 v4 v6) k0_pay3 (k0_pay6 v0 v2 v4 v6) (k0_pay8 v0 v2 v4 v6) (k0_pay9 v0 v2 v4 v6)
      (k0_pay10 v0 v2 v4 v6) = fptosi 32 (found (k0_pay2 v0 v2 v4 v6)) := rfl
  rw [e]
  change FloatOps.fptosi 32 (found (k0_pay2 v0 v2 v4 v6) (ix1 r)) = _
  rw [found_apply _ r hk]
  exact fptosi_natCast k (lt_trans hk.1 (by norm_num))

end Cert.NearestIdeal.Block
-- ==== Proof.Search.lean ====
/-
  What the reference of the nearest-row search computes, over the extended reals.  Its table of
  distances is read at an entry (`dist_apply`); the reduction to a position answers the first least
  entry of a row (`search`); and a run of the reference program ends with these answers (`run`).
  `twice` is the one step that needs finite operands: twice a sum of products, subtracted, is the sum of
  the products whose first factor has been multiplied by minus two.
-/
module

public import proofs.«01_k».proof.Proof.FirstMin
public import proofs.«01_k».proof.Proof.Gen.NearestRefIdeal
public import Idealize.ShloMosaic.Lib.Pointwise
public import Idealize.ShloMosaic.Lib.StableHlo.RunHlo
public import Idealize.ShloMosaic.Lib.Claim
public import Idealize.ShloMosaic.Lib.Quiescent

@[expose] public section

namespace Cert.NearestRefIdeal.Search

open Idealize.ShloMosaic Cert.NearestRefIdeal Cert.NearestRefIdeal.Gen Cert.FirstMin Idealize.SL.Sem Idealize.ShloMosaic.StableHlo Idealize.ShloMosaic.TcCoe

/-- The table of distances, as the reference computes it. -/
noncomputable def dist (z c : FVec Ideal S8192x32 .f32) : FVec Ideal S8192x8192 .f32 :=
  Host.sqrt (maximumf
    (subf
      (addf
        (broadcastInDim S8192x8192 ![0, 1] bcast_S8192x1_S8192x8192_0_1 (broadcastInDim S8192x1 ![0] bcast_S8192_S8192x1_0
          (Host.reduceAdd (mulf z z) (constant S_ .f32 0x00000000#32) reducesTo_S8192x32_S8192_d1 h_S_)))
        (broadcastInDim S8192x8192 ![0, 1] bcast_S1x8192_S8192x8192_0_1 (broadcastInDim S1x8192 ![1] bcast_S8192_S1x8192_1
          (Host.reduceAdd (mulf c c) (constant S_ .f32 0x00000000#32) reducesTo_S8192x32_S8192_d1 h_S_))))
      (mulf (broadcastInDim S8192x8192 ![] bcast_S_S8192x8192 (constant S_ .f32 0x40000000#32))
        (Host.dotGeneral dot_S8192x32_S32x8192_S8192x8192_1_0_0_1_n_n none z
          (transpose S32x8192 [1, 0] c transposes_S8192x32_S32x8192_1_0))))
    (broadcastInDim S8192x8192 ![] bcast_S_S8192x8192 (constant S_ .f32 0x00000000#32)))

/-- The positions the reference answers. -/
noncomputable def answer (z c : FVec Ideal S8192x32 .f32) : IVec S8192 32 := fun j =>
  (Host.argReduce (reducer_argmin_f32_i32 (F := Ideal)) (dist z c) (iotaInDim S8192x8192 32 1) (constant S_ .f32 0x7F800000#32)
    (constantI S_ 32 0#32) reducesTo_S8192x8192_S8192_d1 h_S_ j).2

/-- A distance of the reference: the square root of the two squared lengths less twice the product, cut off
    below at zero. -/
theorem dist_apply (z c : FVec Ideal S8192x32 .f32) (r j : Fin 8192) :
    dist z c (ix2 r j)
      = Ideal.sqrt (max (((∑ x : Fin 32, z (ix2 r x) * z (ix2 r x)) + ∑ x : Fin 32, c (ix2 j x) * c (ix2 j x))
          - Ideal.ofBits .f32 0x40000000#32 * ∑ x : Fin 32, z (ix2 r x) * c (ix2 j x)) 0) := by
  pointwise [dist]

/-- The constants two and minus two. -/
theorem ofBits_two : Ideal.ofBits .f32 0x40000000#32 = ((2 : ℝ) : EReal) := by
  simp [Ideal.ofBits, Ideal.ieee, -EReal.coe_mul]; norm_num

/-- Minus two. -/
theorem ofBits_neg_two : Ideal.ofBits .f32 0xC0000000#32 = ((-2 : ℝ) : EReal) := by
  simp [Ideal.ofBits, Ideal.ieee, -EReal.coe_mul]; norm_num

/-- On finite operands the sum of products with one factor taken minus two times is minus twice the sum of products. -/
theorem twice (a : EReal) (z c : Fin 32 → EReal) (hz : ∀ x, z x ≠ ⊥ ∧ z x ≠ ⊤) (hc : ∀ x, c x ≠ ⊥ ∧ c x ≠ ⊤) :
    a + ∑ x, z x * Ideal.ofBits .f32 0xC0000000#32 * c x = a - Ideal.ofBits .f32 0x40000000#32 * ∑ x, z x * c x := by
  have ez : ∀ x, z x = ((z x).toReal : EReal) := fun x => (EReal.coe_toReal (hz x).2 (hz x).1).symm
  have ec : ∀ x, c x = ((c x).toReal : EReal) := fun x => (EReal.coe_toReal (hc x).2 (hc x).1).symm
  have coe_sum : ∀ f : Fin 32 → ℝ, ∑ x, ((f x : ℝ) : EReal) = ((∑ x, f x : ℝ) : EReal) := fun f => by
    induction (Finset.univ : Finset (Fin 32)) using Finset.induction_on with
    | empty => simp
    | insert i s hi ih => rw [Finset.sum_insert hi, Finset.sum_insert hi, ih, EReal.coe_add]
  rw [ofBits_two, ofBits_neg_two, sub_eq_add_neg]
  refine congrArg (a + ·) ?_
  have e1 : ∀ x, z x * ((-2 : ℝ) : EReal) * c x = (((z x).toReal * -2 * (c x).toReal : ℝ) : EReal) := fun x => by
    rw [EReal.coe_mul, EReal.coe_mul, ← ez, ← ec]
  have e2 : ∀ x, z x * c x = (((z x).toReal * (c x).toReal : ℝ) : EReal) := fun x => by
    rw [EReal.coe_mul, ← ez, ← ec]
  simp only [e1, e2, coe_sum]
  rw [← EReal.coe_mul, ← EReal.coe_neg, Finset.mul_sum, ← Finset.sum_neg_distrib]
  exact congrArg _ (Finset.sum_congr rfl fun x _ => by ring)

/-- A row of the reference's table as a function of the column number, `⊤` past its end. -/
noncomputable def row (D : FVec Ideal S8192x8192 .f32) (r : Fin 8192) (j : ℕ) : EReal :=
  if h : j < 8192 then D (ix2 r ⟨j, h⟩) else ⊤

/-- The reduction's body keeps the better of two pairs. -/
theorem reducer_eq : reducer_argmin_f32_i32 (F := Ideal) = better := by
  funext a b
  obtain ⟨a1, a2⟩ := a
  obtain ⟨b1, b2⟩ := b
  have hlt : FloatOps.cmpf (F := Ideal) (φ := .f32) .olt a1 b1 = BitVec.ofBool (decide (a1 < b1)) := rfl
  have hne : FloatOps.cmpf (F := Ideal) (φ := .f32) .une a1 a1 = 0#1 := by simp [Ideal.cmpf_def, Ideal.cmp]
  have heq : FloatOps.cmpf (F := Ideal) (φ := .f32) .oeq a1 b1 = BitVec.ofBool (decide (a1 = b1)) := rfl
  have hi : IntOp.cmpi .slt a2 b2 = BitVec.ofBool (a2.slt b2) := rfl
  unfold reducer_argmin_f32_i32 better
  simp only [hlt, hne, heq, hi, IntOp.ori, IntOp.andi, Scalar.select]
  by_cases h1 : a1 < b1 <;> by_cases h2 : a1 = b1 <;> cases h3 : a2.slt b2 <;> simp [h1, h2, h3]

/-- The reference's answer at a query is the position of the first least entry of its row. -/
theorem search (D : FVec Ideal S8192x8192 .f32) (r : Fin 8192) {k : ℕ} (hk : At (row D r) 8192 k) :
    (Host.argReduce (reducer_argmin_f32_i32 (F := Ideal)) D (iotaInDim S8192x8192 32 1) (constant S_ .f32 0x7F800000#32)
      (constantI S_ 32 0#32) reducesTo_S8192x8192_S8192_d1 h_S_ (ix1 r)).2 = BitVec.ofNat 32 k := by
  rw [Ideal.argReduce_eq_reduce2, Host.reduce2_eq_foldl_fiber, reducer_eq]
  have hinit : (constant S_ .f32 0x7F800000#32 : FVec Ideal S_ .f32) (Shape.Idx.first h_S_) = (⊤ : EReal) := by
    change Ideal.ofBits .f32 0x7F800000#32 = ⊤
    simp [Ideal.ofBits, Ideal.ieee]
  rw [hinit]
  obtain ⟨l, hl, e⟩ := foldl_at (row D r) (n := 8192) (by norm_num) (by norm_num)
    (Host.argReduceFiber D (iotaInDim S8192x8192 32 1) reducesTo_S8192x8192_S8192_d1 (ix1 r)) fun p => by
      simp only [Host.argReduceFiber, List.mem_map, List.mem_filter, List.mem_finRange, true_and, decide_eq_true_eq]
      have hdrop : ∀ i : S8192x8192.Idx, reducesTo_S8192x8192_S8192_d1.drop i = ix1 r ↔ i 0 = r := fun i => by
        rw [funext_iff]
        constructor
        · intro h
          exact Fin.ext ((Shape.ReducesTo.drop_apply_val_of_eq _ i 0 0).symm.trans (congrArg Fin.val (h 0)))
        · rintro h b
          obtain rfl : b = 0 := Subsingleton.elim _ _
          exact Fin.ext ((Shape.ReducesTo.drop_apply_val_of_eq _ i 0 0).trans (congrArg Fin.val h))
      constructor
      · rintro ⟨n, hn, rfl⟩
        rw [hdrop] at hn
        generalize S8192x8192.rowMajor.symm n = i at hn ⊢
        refine ⟨i 1, (i 1).isLt, Prod.ext ?_ rfl⟩
        rw [row, dif_pos (show (i 1 : ℕ) < 8192 from (i 1).isLt), ← hn]
        exact congrArg D (eq_ix2 i)
      · rintro ⟨j, hj, rfl⟩
        refine ⟨S8192x8192.rowMajor (ix2 r ⟨j, hj⟩), ?_, ?_⟩
        · rw [Equiv.symm_apply_apply, hdrop]; rfl
        · rw [Equiv.symm_apply_apply, row, dif_pos hj]; rfl
  rw [hk.unique hl]
  exact e

/-- The answers, spelt out. -/
theorem answer_eq (z c : FVec Ideal S8192x32 .f32) : answer z c = fun j =>
    (Host.argReduce (reducer_argmin_f32_i32 (F := Ideal)) (dist z c) (iotaInDim S8192x8192 32 1) (constant S_ .f32 0x7F800000#32)
      (constantI S_ 32 0#32) reducesTo_S8192x8192_S8192_d1 h_S_ j).2 := rfl

/-- The reference's answer at a query, by its row of distances. -/
theorem answer_apply (z c : FVec Ideal S8192x32 .f32) (r : Fin 8192) {k : ℕ} (hk : At (row (dist z c) r) 8192 k) :
    answer z c (ix1 r) = BitVec.ofNat 32 k := (congrFun (answer_eq z c) (ix1 r)).trans (search _ r hk)

/-- Every run of the reference ends with its answers in place and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = answer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  rfl

/-- The reference runs, leaves its arguments and ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2, sem_eq_zero_of_no_sems rfl r.2⟩) (run m ρ)

end Cert.NearestRefIdeal.Search
-- ==== Proof.Near.lean ====
/-
  What the TensorCore call alone computes, over the extended reals: the operands that its host code prepares, the blocks
  that its body is handed, and that on finite arguments its array of indices ends with the reference's answers.
-/
module

public import proofs.«01_k».proof.Proof.Block
public import proofs.«01_k».proof.Proof.Search
public import proofs.«01_k».proof.Proof.Gen.NearestIdeal.Frame
public import Idealize.ShloMosaic.Lib.Pipeline.ValueKit
public import Idealize.ShloMosaic.Lib.Claim

@[expose] public section

namespace Cert.NearestIdeal.Near

open Idealize.ShloMosaic Cert.NearestIdeal Cert.NearestIdeal.Gen Cert.FirstMin Idealize.SL.Sem Idealize.ShloMosaic.TcCoe
open Idealize.ShloMosaic.StableHlo

/-- Every entry is a real number. -/
def Finite (x : FVec Ideal S8192x32 .f32) : Prop := ∀ i, x i ≠ ⊥ ∧ x i ≠ ⊤

/-- The operands that the host code prepares for the kernel: the queries times minus two, and the squared lengths of
    the queries (a column) and of the codebook's rows (a row). -/
noncomputable def scaled (z : FVec Ideal S8192x32 .f32) : FVec Ideal S8192x32 .f32 :=
  mulf z (broadcastInDim S8192x32 ![] bcast_S_S8192x32 (constant S_ .f32 0xC0000000#32))
noncomputable def lengthsCol (z : FVec Ideal S8192x32 .f32) : FVec Ideal S8192x1 .f32 :=
  broadcastInDim S8192x1 ![0] bcast_S8192_S8192x1_0
    (Host.reduceAdd (mulf z z) (constant S_ .f32 0x00000000#32) reducesTo_S8192x32_S8192_d1 h_S_)
noncomputable def lengthsRow (c : FVec Ideal S8192x32 .f32) : FVec Ideal S1x8192 .f32 :=
  broadcastInDim S1x8192 ![1] bcast_S8192_S1x8192_1
    (Host.reduceAdd (mulf c c) (constant S_ .f32 0x00000000#32) reducesTo_S8192x32_S8192_d1 h_S_)

/-- A scaled query's entry is the entry times minus two, -/
theorem scaled_apply (z : FVec Ideal S8192x32 .f32) (r : Fin 8192) (x : Fin 32) :
    scaled z (ix2 r x) = z (ix2 r x) * Ideal.ofBits .f32 0xC0000000#32 := by
  pointwise [scaled]

/-- a query's squared length the sum of its squares, -/
theorem lengthsCol_apply (z : FVec Ideal S8192x32 .f32) (r : Fin 8192) :
    lengthsCol z (ix2 r 0) = ∑ x : Fin 32, z (ix2 r x) * z (ix2 r x) := by
  pointwise [lengthsCol]

/-- and so is a codebook row's. -/
theorem lengthsRow_apply (c : FVec Ideal S8192x32 .f32) (j : Fin 8192) :
    lengthsRow c (ix2 0 j) = ∑ x : Fin 32, c (ix2 j x) * c (ix2 j x) := by
  pointwise [lengthsRow]

/-- What the body stores for query `r` of block `t`, when its operands are that block's of the prepared arrays, is the
    reference's answer there. -/
theorem block_answer (z c : FVec Ideal S8192x32 .f32) (hz : Finite z) (hc : Finite c) (x0 : Vec Ideal S2048x32 .f32)
    (x1 : Vec Ideal S2048x1 .f32) (R : Fin 2048 → Fin 8192)
    (h0 : ∀ r x, x0 (ix2 r x) = scaled z (ix2 (R r) x)) (h1 : ∀ r, x1 (ix2 r 0) = lengthsCol z (ix2 (R r) 0)) (r : Fin 2048) :
    k0_pay1 (k0_pay2 x0 c x1 (lengthsRow c)) k0_pay3 (k0_pay6 x0 c x1 (lengthsRow c)) (k0_pay8 x0 c x1 (lengthsRow c))
      (k0_pay9 x0 c x1 (lengthsRow c)) (k0_pay10 x0 c x1 (lengthsRow c)) (ix1 r)
      = NearestRefIdeal.Search.answer z c (ix1 (R r)) := by
  obtain ⟨k, hk⟩ := exists_at (NearestRefIdeal.Search.row (NearestRefIdeal.Search.dist z c) (R r)) (n := 8192) (by norm_num)
  rw [NearestRefIdeal.Search.answer_apply z c (R r) hk]
  refine Block.stored _ _ _ _ r (hk.congr fun j hj => ?_)
  rw [Block.row_of _ _ hj, NearestRefIdeal.Search.row, dif_pos hj, Block.dist_apply, NearestRefIdeal.Search.dist_apply, h1,
    lengthsCol_apply, lengthsRow_apply]
  simp only [h0, scaled_apply]
  rw [NearestRefIdeal.Search.twice _ _ _ (fun x => hz _) fun x => hc _]

variable (m : (ℓ : Loc nD τ sig) → Buf (Elt Ideal) ℓ)

/-- What the host code leaves for the call: the scaled queries, -/
theorem V7 (c : Dev nD) : V m c main_v7 = scaled (m ((c : Thread nD τ).loc main_arg0)) := by
  simp only [V, hostOps0]
  after_results <;> rfl
/-- the queries' squared lengths, -/
theorem V2 (c : Dev nD) : V m c main_v2 = lengthsCol (m ((c : Thread nD τ).loc main_arg0)) := by
  simp only [V, hostOps0]
  after_results <;> rfl
/-- and the codebook's. -/
theorem V5 (c : Dev nD) : V m c main_v5 = lengthsRow (m ((c : Thread nD τ).loc main_arg1)) := by
  simp only [V, hostOps0]
  after_results <;> rfl

/-- Which block each window is at: the queries and their lengths at the point's own, the codebook and its lengths at the only one, the indices at the point's own. -/
theorem index0 : ∀ t, win0_0.index t = ![(grid0.coords t 0).val, 0] := by decide +kernel
theorem index1 : ∀ t, win0_1.index t = ![(grid0.coords t 0).val, 0] := by decide +kernel
theorem index2 : ∀ t, win0_2.index t = ![0, 0] := by decide +kernel
theorem index3 : ∀ t, win0_3.index t = ![0, 0] := by decide +kernel
theorem index4 : ∀ t, win0_4.index t = ![(grid0.coords t 0).val] := by decide +kernel

/-- Query `r` of block `t` among all the queries. -/
def query (t : Fin cfg0.N) (r : Fin 2048) : Fin 8192 :=
  ⟨(grid0.coords t 0).val * 2048 + r, by have h : (grid0.coords t 0).val < 4 := (grid0.coords t 0).isLt; omega⟩

/-- The blocks that the body is handed at point `t`. -/
theorem iblk0_apply (c : Dev nD) (t : Fin cfg0.N) (r : Fin 2048) (x : Fin 32) :
    iblk m c 0 t (ix2 r x) = scaled (m ((c : Thread nD τ).loc main_arg0)) (ix2 (query t r) x) := by
  rw [← V7]
  blk_simp [iblk]
  refine congrArg _ (funext fun a => Fin.ext ?_)
  match a with
  | 0 => blk_simp [index0]; rfl
  | 1 => blk_simp [index0]
theorem iblk1_apply (c : Dev nD) (t : Fin cfg0.N) (r : Fin 2048) :
    iblk m c 1 t (ix2 r 0) = lengthsCol (m ((c : Thread nD τ).loc main_arg0)) (ix2 (query t r) 0) := by
  rw [← V2]
  blk_simp [iblk]
  refine congrArg _ (funext fun a => Fin.ext ?_)
  match a with
  | 0 => blk_simp [index1]; rfl
  | 1 => blk_simp [index1]
theorem iblk2_eq (c : Dev nD) (t : Fin cfg0.N) : iblk m c 2 t = m ((c : Thread nD τ).loc main_arg1) := by
  rw [← V_main_arg1 m c]
  funext y
  blk_simp [iblk]
  refine congrArg _ (funext fun a => Fin.ext ?_)
  match a with
  | 0 => blk_simp [index2]
  | 1 => blk_simp [index2]
theorem iblk3_eq (c : Dev nD) (t : Fin cfg0.N) : iblk m c 3 t = lengthsRow (m ((c : Thread nD τ).loc main_arg1)) := by
  rw [← V5]
  funext y
  blk_simp [iblk]
  refine congrArg _ (funext fun a => Fin.ext ?_)
  match a with
  | 0 => blk_simp [index3]
  | 1 => blk_simp [index3]

/-- On finite arguments the call's array of indices ends with the reference's answers. -/
theorem out (c : Dev nD) (hz : Finite (m ((c : Thread nD τ).loc main_arg0))) (hc : Finite (m ((c : Thread nD τ).loc main_arg1))) :
    (dats m 0 c).arrAt 4 cfg0.N
      = NearestRefIdeal.Search.answer (m ((c : Thread nD τ).loc main_arg0)) (m ((c : Thread nD τ).loc main_arg1)) := by
  refine (dats m 0 c).arrAt_eq_of_covers 4 _ (by decide +kernel) fun t hf y => ?_
  blk_simp
  rw [after0_4]
  frame_out
  rw [iblk2_eq, iblk3_eq]
  rw [eq_ix1 (n0 := 2048) y]
  refine (block_answer _ _ hz hc _ _ (query t) (iblk0_apply m c t) (iblk1_apply m c t) (y 0)).trans ?_
  refine congrArg _ (funext fun a => Fin.ext ?_)
  match a with
  | 0 => blk_simp [index4]; rfl

end Cert.NearestIdeal.Near
-- ==== Proof.HostOps.lean ====
/-
  Two operations of the host programs read at an entry: the codebook set into the first 32 columns of a wider array of zeros,
  and `jnp.take` of rows at indices that are in range.
-/
module

public import proofs.«01_k».proof.Proof.Gen.Lookup
public import proofs.«01_k».proof.Proof.Gen.LookupRef
public import Idealize.ShloMosaic.Lib.Pointwise
public import Idealize.ShloMosaic.Lib.ReduceAll
public import Idealize.ShloMosaic.Lib.Routing.OpsSet

@[expose] public section

noncomputable section

namespace Cert.HostOps

open Idealize.ShloMosaic

variable {F : FTy → Type} [FloatOps F]

section Pad

open Cert.Lookup Cert.Lookup.Gen

/-- The codebook set into the first columns of an array of zeros. -/
def padded (c : FVec F S8192x32 .f32) : FVec F S8192x128 .f32 :=
  Host.scatter scatter_S8192x128_S1_S8192x32_01_n_1_0 (fun _ b => b) (broadcastInDim S8192x128 ![] bcast_S_S8192x128 (constant S_ .f32 0x00000000#32))
    (broadcastInDim S1 ![] bcast_S_S1 (constantI S_ 32 0#32)) c

/-- Where the entry `k` of the codebook is set: at `k`'s own row and column. -/
theorem lands (k : S8192x32.Idx) (ι : S8192x128.Idx) :
    scatter_S8192x128_S1_S8192x32_01_n_1_0.resultIdx? k (broadcastInDim S1 ![] bcast_S_S1 (constantI S_ 32 0#32)) = some ι
      ↔ (k 0).val = (ι 0).val ∧ (k 1).val = (ι 1).val := by
  have start : ∀ a, scatter_S8192x128_S1_S8192x32_01_n_1_0.start k (broadcastInDim S1 ![] bcast_S_S1 (constantI S_ 32 0#32)) a = 0 := fun a => by
    unfold ScatterDims.start
    split <;> rfl
  have window0 : scatter_S8192x128_S1_S8192x32_01_n_1_0.window k 0 = (k 0).val := rfl
  have window1 : scatter_S8192x128_S1_S8192x32_01_n_1_0.window k 1 = (k 1).val := rfl
  rw [Routing.resultIdx?_eq_some]
  constructor
  · intro h
    have h0 := h 0
    have h1 := h 1
    rw [start, window0] at h0
    rw [start, window1] at h1
    omega
  · rintro ⟨h0, h1⟩ a
    rw [start]
    match a with
    | 0 => change 0 + ((k 0).val : ℤ) = _; omega
    | 1 => change 0 + ((k 1).val : ℤ) = _; omega

/-- The padded codebook holds the codebook's entries in its first columns. -/
theorem padded_apply (c : FVec F S8192x32 .f32) (r : Fin 8192) (x : Fin 32) :
    padded c (ix2 r (⟨x.val, by omega⟩ : Fin 128)) = c (ix2 r x) :=
  Routing.scatter_set_hit _ _ _ _ _ _
    (fun k hk => by
      obtain ⟨h0, h1⟩ := (lands k _).1 hk
      refine congrArg c (funext fun a => Fin.ext ?_)
      match a with
      | 0 => exact h0
      | 1 => exact h1)
    (ix2 r x) ((lands _ _).2 ⟨rfl, rfl⟩)

end Pad

section Take

open Cert.LookupRef Cert.LookupRef.Gen

/-- Row `j 0` of the result is the row of `c` that the index `i` there names. -/
def rowsAt (c : FVec F S8192x32 .f32) (i : IVec S8192 32) : FVec F S8192x32 .f32 := fun j =>
  c (ix2 (⟨(i (ix1 (j 0))).toNat % 8192, Nat.mod_lt _ (by decide)⟩ : Fin 8192) (j 1))

/-- The indices as `take` reads them: one below zero counts from the end. -/
def wrapped (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- `jnp.take(c, i, axis=0)`: the row where the index is in range, else NaN. -/
def take (c : FVec F S8192x32 .f32) (i : IVec S8192 32) : FVec F S8192x32 .f32 :=
  select
    (broadcastInDim S8192x32 ![0] bcast_S8192_S8192x32_0
      (Host.reduce IntOp.andi
        (andi (cmpi .sge (wrapped i) (broadcastInDim S8192x1 ![] bcast_S_S8192x1 (constantI S_ 32 0#32)))
          (cmpi .sle (wrapped i)
            (broadcastInDim S8192x1 ![0, 1] bcast_S1x1_S8192x1_0_1 (broadcastInDim S1x1 ![1] bcast_S1_S1x1_1 (constantI S1 32 8191#32)))))
        (constantI S_ 1 1#1) reducesTo_S8192x1_S8192_d1 h_S_))
    (Host.gather gather_S8192x32_S8192x1_S8192x32_1_0_n_n_0_1_132 c (wrapped i))
    (broadcastInDim S8192x32 ![] bcast_S_S8192x32 (constant S_ .f32 0x7FC00000#32))

/-- A word below 8192 is not below zero, and at most 8191, as a signed number. -/
theorem word {v : BitVec 32} (h : v.toNat < 8192) :
    IntOp.cmpi .slt v 0#32 = 0#1 ∧ IntOp.andi (IntOp.cmpi .sge v 0#32) (IntOp.cmpi .sle v 8191#32) = 1#1 := by
  have h0 : v.slt 0#32 = false := by
    simp only [BitVec.slt_eq_decide, BitVec.toInt_eq_toNat_cond, BitVec.toNat_ofNat, decide_eq_false_iff_not]
    omega
  have h1 : (0#32).sle v = true := by
    simp only [BitVec.sle_eq_decide, BitVec.toInt_eq_toNat_cond, BitVec.toNat_ofNat, decide_eq_true_eq]
    omega
  have h2 : v.sle 8191#32 = true := by
    simp only [BitVec.sle_eq_decide, BitVec.toInt_eq_toNat_cond, BitVec.toNat_ofNat, decide_eq_true_eq]
    omega
  simp only [IntOp.cmpi, IntOp.andi, h0, h1, h2]
  decide

/-- An index in range is read as it is. -/
theorem wrapped_apply (i : IVec S8192 32) (hi : ∀ r : Fin 8192, (i (ix1 r)).toNat < 8192) (r : Fin 8192) :
    wrapped i (ix2 r (0 : Fin 1)) = i (ix1 r) := by
  have e : wrapped i (ix2 r (0 : Fin 1)) = Scalar.select (IntOp.cmpi .slt (i (ix1 r)) 0#32) (IntOp.addi (i (ix1 r)) 8192#32) (i (ix1 r)) := by
    pointwise [wrapped]
  rw [e, (word (hi r)).1]
  rfl

/-- With every index in range, `take` is the rows at the indices. -/
theorem take_eq (c : FVec F S8192x32 .f32) (i : IVec S8192 32) (hi : ∀ r : Fin 8192, (i (ix1 r)).toNat < 8192) : take c i = rowsAt c i := by
  funext j
  obtain ⟨r, x, rfl⟩ : ∃ r x, j = ix2 r x := ⟨_, _, eq_ix2 j⟩
  unfold take
  have mask : broadcastInDim S8192x32 ![0] bcast_S8192_S8192x32_0
      (Host.reduce IntOp.andi
        (andi (cmpi .sge (wrapped i) (broadcastInDim S8192x1 ![] bcast_S_S8192x1 (constantI S_ 32 0#32)))
          (cmpi .sle (wrapped i)
            (broadcastInDim S8192x1 ![0, 1] bcast_S1x1_S8192x1_0_1 (broadcastInDim S1x1 ![1] bcast_S1_S1x1_1 (constantI S1 32 8191#32)))))
        (constantI S_ 1 1#1) reducesTo_S8192x1_S8192_d1 h_S_) (ix2 r x) = 1#1 := by
    refine Host.reduce_andi_one _ _ _ _ _ rfl fun k => ?_
    obtain ⟨r', z, rfl⟩ : ∃ (r' : Fin 8192) (z : Fin 1), k = ix2 r' z := ⟨_, _, eq_ix2 k⟩
    obtain rfl : z = 0 := Subsingleton.elim _ _
    have e := (word (hi r')).2
    rw [← wrapped_apply i hi r'] at e
    exact e
  have hb := wrapped_apply i hi r
  have h := hi r
  rw [show ∀ a b : FVec F S8192x32 .f32, ∀ p : IVec S8192x32 1, p (ix2 r x) = 1#1 → select p a b (ix2 r x) = a (ix2 r x) from
    fun a b p hp => by show Scalar.select (p _) _ _ = _; rw [hp]; rfl]
  · have e (a : Fin 8192) (b : Fin 32) : ValueIdx.ix2 a b = ix2 a b := eq_ix2 _
    have e' (a : Fin 8192) (b : Fin 1) : ValueIdx.ix2 a b = ix2 a b := eq_ix2 _
    have g := Routing.gather_row gather_S8192x32_S8192x1_S8192x32_1_0_n_n_0_1_132 rfl rfl rfl rfl rfl c (wrapped i) r x
      ⟨(i (ix1 r)).toNat % 8192, Nat.mod_lt _ (by decide)⟩
      (by rw [e', hb]; refine BitVec.eq_of_toNat_eq ?_; rw [BitVec.toNat_ofNat]; show _ = (_ % 8192) % 2 ^ 32; omega) (by decide)
    rw [e, e] at g
    exact g
  · exact mask

end Take

end Cert.HostOps

end
-- ==== Proof.KernelValue.lean ====
/-
  What the whole kernel computes, over the extended reals.  The TensorCore's call leaves at each query the position that
  the body picks in the query's block: below 8192 whatever the arguments, and the reference's answer when they are
  finite.  The SparseCores' call then copies the codebook's rows at these positions.
-/
module

public import proofs.«01_k».proof.Proof.KernelRun
public import proofs.«01_k».proof.Proof.Near
public import proofs.«01_k».proof.Proof.HostOps
public import Idealize.ShloMosaic.Lib.Pipeline.ValueKit
public import Idealize.ShloMosaic.Lib.Pipeline.FrameTail
public import Idealize.ShloMosaic.Lib.Claim

@[expose] public section

noncomputable section

namespace Cert.KernelIdeal.Tile

open Cert.KernelIdeal Cert.KernelIdeal.Gen Cert.HostOps Cert.FirstMin
open Idealize.ShloMosaic Idealize.SL.Sem Idealize.ShloMosaic.StableHlo Idealize.ShloMosaic.TcCoe
open Cert.NearestIdeal.Near (scaled lengthsCol lengthsRow Finite)

/-! ## The positions that the TensorCore's call leaves -/

section Positions

variable (B : Dev nD → Valuation τ sig (Elt Ideal)) (d : Dev nD)

/-- Which block each window is at: the queries and their lengths at the point's own, the codebook and its lengths at the only one, the indices at the point's own. -/
theorem index0 : ∀ t, win0_0.index t = ![(grid0.coords t 0).val, 0] := by decide +kernel
theorem index1 : ∀ t, win0_1.index t = ![(grid0.coords t 0).val, 0] := by decide +kernel
theorem index2 : ∀ t, win0_2.index t = ![0, 0] := by decide +kernel
theorem index3 : ∀ t, win0_3.index t = ![0, 0] := by decide +kernel
theorem index4 : ∀ t, win0_4.index t = ![(grid0.coords t 0).val] := by decide +kernel
/-- A point's coordinate is its number. -/
theorem coord : ∀ t : Fin grid0.N, (grid0.coords t 0).val = t.val := by decide +kernel

/-- Query `r` of block `t` among all the queries, -/
def query (t : Fin cfg0.N) (r : Fin 2048) : Fin 8192 :=
  ⟨(grid0.coords t 0).val * 2048 + r, by have h : (grid0.coords t 0).val < 4 := (grid0.coords t 0).isLt; omega⟩
/-- and a query's block. -/
def block_of (j : Fin 8192) : Fin cfg0.N := ⟨j.val / 2048, by rw [show cfg0.N = 4 from N_0]; omega⟩

/-- A query is found again in its block. -/
theorem query_block (j : Fin 8192) : query (block_of j) (⟨j.val % 2048, Nat.mod_lt _ (by norm_num)⟩ : Fin 2048) = j := by
  refine Fin.ext ?_
  show (grid0.coords (block_of j) 0).val * 2048 + j.val % 2048 = j.val
  rw [coord]
  show j.val / 2048 * 2048 + j.val % 2048 = j.val
  omega

/-- The position at query `j`: what the body picks in the query's block. -/
def position : IVec S8192 32 := fun j =>
  picked (handed B d 0 (block_of (j 0))) (handed B d 2 (block_of (j 0))) (handed B d 1 (block_of (j 0))) (handed B d 3 (block_of (j 0)))
    (ix1 (⟨(j 0).val % 2048, Nat.mod_lt _ (by norm_num)⟩ : Fin 2048))

/-- The position at query `r` of block `t` is what the body picks there. -/
theorem position_query (t : Fin cfg0.N) (r : Fin 2048) : position B d (ix1 (query t r))
    = picked (handed B d 0 t) (handed B d 2 t) (handed B d 1 t) (handed B d 3 t) (ix1 r) := by
  have hb : block_of (query t r) = t := by
    refine Fin.ext ?_
    show ((grid0.coords t 0).val * 2048 + r.val) / 2048 = t.val
    rw [coord]; omega
  have hr : (⟨(query t r).val % 2048, Nat.mod_lt _ (by norm_num)⟩ : Fin 2048) = r := by
    refine Fin.ext ?_
    show ((grid0.coords t 0).val * 2048 + r.val) % 2048 = r.val
    omega
  show picked (handed B d 0 (block_of (query t r))) (handed B d 2 (block_of (query t r))) (handed B d 1 (block_of (query t r)))
    (handed B d 3 (block_of (query t r))) (ix1 (⟨(query t r).val % 2048, _⟩ : Fin 2048)) = _
  rw [hb, hr]

/-- The call's array of indices holds the positions. -/
theorem positions : (dat B d).arrAt 4 cfg0.N = position B d := by
  refine (dat B d).arrAt_eq_of_covers 4 _ (by decide +kernel) fun t hf y => ?_
  blk_simp
  rw [after_4]
  unfold stored
  frame_out
  rw [eq_ix1 (n0 := 2048) y]
  refine (position_query B d t (y 0)).symm.trans ?_
  refine congrArg _ (funext fun a => Fin.ext ?_)
  match a with
  | 0 => blk_simp [index4]; rfl

/-- The body picks as the TensorCore's call alone does. -/
theorem picked_eq (y0 : Vec Ideal S2048x32 .f32) (y2 : Vec Ideal S8192x32 .f32) (y1 : Vec Ideal S2048x1 .f32) (y3 : Vec Ideal S1x8192 .f32) :
    picked y0 y2 y1 y3
      = NearestIdeal.Gen.k0_pay1 (NearestIdeal.Gen.k0_pay2 y0 y2 y1 y3) NearestIdeal.Gen.k0_pay3 (NearestIdeal.Gen.k0_pay6 y0 y2 y1 y3)
          (NearestIdeal.Gen.k0_pay8 y0 y2 y1 y3) (NearestIdeal.Gen.k0_pay9 y0 y2 y1 y3) (NearestIdeal.Gen.k0_pay10 y0 y2 y1 y3) := by
  rfl

/-- A position is below 8192, whatever the arguments. -/
theorem position_lt (j : S8192.Idx) : (position B d j).toNat < 8192 := by
  unfold position
  rw [picked_eq]
  obtain ⟨k, hk⟩ := exists_at (NearestIdeal.Block.row (NearestIdeal.Gen.k0_pay2 (handed B d 0 (block_of (j 0))) (handed B d 2 (block_of (j 0)))
    (handed B d 1 (block_of (j 0))) (handed B d 3 (block_of (j 0)))) (⟨(j 0).val % 2048, Nat.mod_lt _ (by norm_num)⟩ : Fin 2048)) (n := 8192) (by norm_num)
  rw [NearestIdeal.Block.stored _ _ _ _ _ hk, BitVec.toNat_ofNat]
  exact lt_of_le_of_lt (Nat.mod_le _ _) hk.1

end Positions

variable (m : (ℓ : Loc nD τ sig) → Buf (Elt Ideal) ℓ) (d : Dev nD)

/-- The program's two arguments. -/
abbrev queries : FVec Ideal S8192x32 .f32 := m ((d.tc : Thread nD τ).loc main_arg0)
abbrev book : FVec Ideal S8192x32 .f32 := m ((d.tc : Thread nD τ).loc main_arg1)

/-- What the TensorCore's call is made on. -/
theorem V₁_v7 : V₁ m d (Proc.devRef .tc main_v7) = scaled (queries m d) := by
  rw [V₁_eq]
  after_results <;> rfl
theorem V₁_v2 : V₁ m d (Proc.devRef .tc main_v2) = lengthsCol (queries m d) := by
  rw [V₁_eq]
  after_results <;> rfl
theorem V₁_v5 : V₁ m d (Proc.devRef .tc main_v5) = lengthsRow (book m d) := by
  rw [V₁_eq]
  after_results <;> rfl
theorem V₁_arg1 : V₁ m d (Proc.devRef .tc main_arg1) = book m d := by
  rw [V₁_eq]
  after_results <;> rfl
theorem V₁_arg0 : V₁ m d (Proc.devRef .tc main_arg0) = queries m d := by
  rw [V₁_eq]
  after_results <;> rfl

/-- The blocks that the body is handed at point `t`. -/
theorem handed_0 (t : Fin cfg0.N) (r : Fin 2048) (x : Fin 32) :
    handed (V₁ m) d 0 t (ix2 r x) = scaled (queries m d) (ix2 (query t r) x) := by
  rw [← V₁_v7]
  blk_simp [handed]
  refine congrArg _ (funext fun a => Fin.ext ?_)
  match a with
  | 0 => blk_simp [index0]; rfl
  | 1 => blk_simp [index0]
theorem handed_1 (t : Fin cfg0.N) (r : Fin 2048) :
    handed (V₁ m) d 1 t (ix2 r 0) = lengthsCol (queries m d) (ix2 (query t r) 0) := by
  rw [← V₁_v2]
  blk_simp [handed]
  refine congrArg _ (funext fun a => Fin.ext ?_)
  match a with
  | 0 => blk_simp [index1]; rfl
  | 1 => blk_simp [index1]
theorem handed_2 (t : Fin cfg0.N) : handed (V₁ m) d 2 t = book m d := by
  rw [← V₁_arg1]
  funext y
  blk_simp [handed]
  refine congrArg _ (funext fun a => Fin.ext ?_)
  match a with
  | 0 => blk_simp [index2]
  | 1 => blk_simp [index2]
theorem handed_3 (t : Fin cfg0.N) : handed (V₁ m) d 3 t = lengthsRow (book m d) := by
  rw [← V₁_v5]
  funext y
  blk_simp [handed]
  refine congrArg _ (funext fun a => Fin.ext ?_)
  match a with
  | 0 => blk_simp [index3]
  | 1 => blk_simp [index3]

/-- On finite arguments the positions are the reference's answers. -/
theorem position_eq (hz : Finite (queries m d)) (hc : Finite (book m d)) :
    position (V₁ m) d = NearestRefIdeal.Search.answer (queries m d) (book m d) := by
  funext j
  obtain ⟨i, rfl⟩ : ∃ i : Fin 8192, j = ix1 i := ⟨_, eq_ix1 j⟩
  have h := position_query (V₁ m) d (block_of i) (⟨i.val % 2048, Nat.mod_lt _ (by norm_num)⟩ : Fin 2048)
  rw [query_block] at h
  rw [h, picked_eq, handed_2, handed_3]
  refine (NearestIdeal.Near.block_answer _ _ hz hc _ _ (query (block_of i)) (handed_0 m d _) (handed_1 m d _) _).trans ?_
  rw [query_block]

/-! ## The buffers from the TensorCore's call on -/

/-- The call's array of indices then holds the positions, -/
theorem V₂_v8 : V₂ m d (Proc.devRef .tc main_v8) = position (V₁ m) d := by
  rw [V₂_eq, called, Function.update_self]
  exact positions (V₁ m) d
/-- every other buffer what it held. -/
theorem V₂_of_ne (b : DevRef τ sig) (h : b ≠ Proc.devRef .tc main_v8) : V₂ m d b = V₁ m d b := by
  rw [V₂_eq, called, Function.update_of_ne h]

/-- What the SparseCores' call is made on: the padded codebook and the positions cut into pages. -/
theorem args_tab : (args m).tab d = padded (book m d) := by
  show V₃ m d (Proc.devRef .tc main_v12) = _
  rw [V₃_eq, ← V₁_arg1, ← V₂_of_ne m d _ (by decide : Proc.devRef .tc main_arg1 ≠ Proc.devRef .tc main_v8)]
  after_results <;> rfl
theorem args_idx : (args m).idx d = shapeCast S32x2x128 (position (V₁ m) d) shapeCasts_S8192_S32x2x128 := by
  show V₃ m d (Proc.devRef .tc main_v9) = _
  rw [V₃_eq, ← V₂_v8]
  after_results <;> rfl

/-- The index of row `r`, in its page, is the position at query `r`. -/
theorem args_rowIdx (r : Fin 8192) : (args m).idx d (rowIdx r) = position (V₁ m) d (ix1 r) := by
  rw [args_idx]
  refine congrArg (position (V₁ m) d) ?_
  refine Shape.reshapeEquiv_eq_of_rowMajor _ ?_
  rw [rowMajor_val1, rowMajor_val3 _ 256 128 rfl rfl]
  show r.val = r.val / 256 * 256 + r.val % 256 / 128 * 128 + r.val % 128
  omega

/-- Every index names a row of the padded codebook. -/
theorem args_inRange : InRange (args m) := fun d j => by
  rw [args_idx]
  exact position_lt (V₁ m) d _

/-- The buffers at the end: the two results and the two arguments. -/
theorem V₅_v14 : V₅ m d (Proc.devRef .tc main_v14)
    = extractStridedSlice S8192x32 ![0, 0] (res (args m) d) slices_S8192x128_S8192x32_0_0 := by
  rw [V₅_eq, ← V₄_out]
  after_results <;> rfl
theorem V₅_v8 : V₅ m d (Proc.devRef .tc main_v8) = position (V₁ m) d := by
  rw [V₅_eq, ← V₂_v8]
  after_results
  rw [V₄, Function.update_of_ne (by decide), V₃_eq]
  after_results <;> rfl
theorem V₅_arg0 : V₅ m d (Proc.devRef .tc main_arg0) = queries m d := by
  rw [V₅_eq, ← V₁_arg0, ← V₂_of_ne m d _ (by decide : Proc.devRef .tc main_arg0 ≠ Proc.devRef .tc main_v8)]
  after_results
  rw [V₄, Function.update_of_ne (by decide), V₃_eq]
  after_results <;> rfl
theorem V₅_arg1 : V₅ m d (Proc.devRef .tc main_arg1) = book m d := by
  rw [V₅_eq, ← V₁_arg1, ← V₂_of_ne m d _ (by decide : Proc.devRef .tc main_arg1 ≠ Proc.devRef .tc main_v8)]
  after_results
  rw [V₄, Function.update_of_ne (by decide), V₃_eq]
  after_results <;> rfl

/-- The first result is the rows of the codebook at the positions. -/
theorem rows_eq : V₅ m d (Proc.devRef .tc main_v14) = rowsAt (book m d) (position (V₁ m) d) := by
  rw [V₅_v14]
  funext j
  obtain ⟨r, x, rfl⟩ : ∃ r x, j = ix2 r x := ⟨_, _, eq_ix2 j⟩
  have e : extractStridedSlice S8192x32 ![0, 0] (res (args m) d) slices_S8192x128_S8192x32_0_0 (ix2 r x)
      = res (args m) d (ix2 r (⟨x.val, by omega⟩ : Fin 128)) := by
    pointwise
  rw [e]
  show (args m).tab d (ix2 (⟨((args m).idx d (rowIdx r) : BitVec 32).toNat % 8192, _⟩ : Fin 8192) (⟨x.val, _⟩ : Fin 128)) = _
  rw [args_tab, padded_apply]
  simp only [args_rowIdx]
  rfl

/-- Every run ends with the rows at the positions and the positions, its arguments unchanged and every counter at zero. -/
theorem run (ρ : Dev nD → PrngReg) :
    θ_run (Cert.KernelIdeal.defs (F := Ideal)) (Cert.KernelIdeal.threads (F := Ideal)) ⟨m, fun _ => 0, ρ⟩
      (fun r => (∀ c : Dev nD, r.2.mem ((c.tc : Thread nD τ).loc main_v14) = rowsAt (book m c) (position (V₁ m) c)
        ∧ r.2.mem ((c.tc : Thread nD τ).loc main_v8) = position (V₁ m) c
        ∧ r.2.mem ((c.tc : Thread nD τ).loc main_arg0) = queries m c
        ∧ r.2.mem ((c.tc : Thread nD τ).loc main_arg1) = book m c) ∧ r.2.sem = fun _ => 0) := by
  refine (θ_run _ _ _).mono (fun r hr => ⟨fun c => ?_, hr.2⟩) (run_main m ρ (args_inRange m))
  exact ⟨(hr.1 c _ (Pipeline.devRef_mem_ucRefs rfl)).trans (rows_eq m c), (hr.1 c _ (Pipeline.devRef_mem_ucRefs rfl)).trans (V₅_v8 m c),
    (hr.1 c _ (Pipeline.devRef_mem_ucRefs rfl)).trans (V₅_arg0 m c), (hr.1 c _ (Pipeline.devRef_mem_ucRefs rfl)).trans (V₅_arg1 m c)⟩

end Cert.KernelIdeal.Tile

end
-- ==== Proof.RefRun.lean ====
/-
  The whole reference's run (`ReferenceIdeal`), over the extended reals: its operations in three parts, the table of
  distances, the search of its rows and the rows taken from the codebook; every run ends with the answers of the search and
  the codebook's rows at them.
-/
module

public import proofs.«01_k».proof.Proof.Search
public import proofs.«01_k».proof.Proof.HostOps
public import proofs.«01_k».proof.Proof.Gen.ReferenceIdeal
public import Idealize.ShloMosaic.Lib.StableHlo.Run
public import Idealize.ShloMosaic.Lib.Pipeline.Frame
public import Idealize.ShloMosaic.Lib.Quiescent
public import Idealize.ShloMosaic.Lib.Claim

@[expose] public section

noncomputable section

namespace Cert.ReferenceIdeal.Both

open Cert.ReferenceIdeal Cert.ReferenceIdeal.Gen Cert.HostOps Cert.FirstMin
open Idealize.ShloMosaic Idealize.SL.Sem Idealize.ShloMosaic.StableHlo Idealize.ShloMosaic.TcCoe
open Cert.NearestRefIdeal.Search (answer)

section Program

variable {F : FTy → Type} [FloatOps F]

/-- The operations that make the table of distances, -/
abbrev opsA : List (HloOp τ sig (Elt F)) :=
  [ binary main_arg0 main_arg0 main_v0 (mulf : (⟨S8192x32, .f32⟩ : BufTy).Contents (Elt F) → (⟨S8192x32, .f32⟩ : BufTy).Contents (Elt F) → (⟨S8192x32, .f32⟩ : BufTy).Contents (Elt F)),
    nullary main_cst (constant S_ .f32 0x00000000#32),
    binary main_v0 main_cst main_v1 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    binary main_arg1 main_arg1 main_v3 (mulf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x00000000#32),
    binary main_v3 main_cst_0 main_v4 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    unary main_arg1 main_v9 ((transpose S32x8192 [1, 0] · transposes_S8192x32_S32x8192_1_0) : (⟨S8192x32, .f32⟩ : BufTy).Contents (Elt F) → (⟨S32x8192, .f32⟩ : BufTy).Contents (Elt F)),
    binary main_arg0 main_v9 main_v10 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
    nullary main_cst_1 (constant S_ .f32 0x40000000#32),
    unary main_cst_1 main_v11 (broadcastInDim S8192x8192 ![] bcast_S_S8192x8192 : (⟨S_, .f32⟩ : BufTy).Contents (Elt F) → (⟨S8192x8192, .f32⟩ : BufTy).Contents (Elt F)),
    binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    unary main_v15 main_v16 (Host.sqrt : (⟨S8192x8192, .f32⟩ : BufTy).Contents (Elt F) → (⟨S8192x8192, .f32⟩ : BufTy).Contents (Elt F)) ]
/-- those that search its rows, -/
abbrev opsB : List (HloOp τ sig (Elt F)) :=
  [ nullary main_call0_v0 ((iotaInDim S8192x8192 32 1) : (⟨S8192x8192, .i32⟩ : BufTy).Contents (Elt F)),
    nullary main_call0_cst ((constant S_ .f32 0x7F800000#32) : (⟨S_, .f32⟩ : BufTy).Contents (Elt F)),
    nullary main_call0_c ((constantI S_ 32 0#32) : (⟨S_, .i32⟩ : BufTy).Contents (Elt F)),
    quaternary main_v16 main_call0_v0 main_call0_cst main_call0_c main_call0_v1_0 ((fun x y u v j => (Host.argReduce reducer_argmin_f32_i32 x y u v reducesTo_S8192x8192_S8192_d1 h_S_ j).1) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .f32⟩ : BufTy).Contents (Elt F)),
    quaternary main_v16 main_call0_v0 main_call0_cst main_call0_c main_v17 ((fun x y u v j => (Host.argReduce reducer_argmin_f32_i32 x y u v reducesTo_S8192x8192_S8192_d1 h_S_ j).2) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .i32⟩ : BufTy).Contents (Elt F)) ]
/-- and those that take the rows of the codebook. -/
abbrev opsC : List (HloOp τ sig (Elt F)) :=
  [ nullary main_call1_c ((constantI S_ 32 0#32) : (⟨S_, .i32⟩ : BufTy).Contents (Elt F)),
    unary main_call1_c main_call1_v0 ((broadcastInDim S8192 ![] bcast_S_S8192) : (⟨S_, .i32⟩ : BufTy).Contents (Elt F) → (⟨S8192, .i32⟩ : BufTy).Contents (Elt F)),
    binary main_v17 main_call1_v0 main_call1_v1 ((cmpi .slt) : (⟨S8192, .i32⟩ : BufTy).Contents (Elt F) → (⟨S8192, .i32⟩ : BufTy).Contents (Elt F) → (⟨S8192, .i1⟩ : BufTy).Contents (Elt F)),
    nullary main_call1_c_0 ((constantI S_ 32 8192#32) : (⟨S_, .i32⟩ : BufTy).Contents (Elt F)),
    unary main_call1_c_0 main_call1_v2 ((broadcastInDim S8192 ![] bcast_S_S8192) : (⟨S_, .i32⟩ : BufTy).Contents (Elt F) → (⟨S8192, .i32⟩ : BufTy).Contents (Elt F)),
    binary main_v17 main_call1_v2 main_call1_v3 ((addi) : (⟨S8192, .i32⟩ : BufTy).Contents (Elt F) → (⟨S8192, .i32⟩ : BufTy).Contents (Elt F) → (⟨S8192, .i32⟩ : BufTy).Contents (Elt F)),
    ternary main_call1_v1 main_call1_v3 main_v17 main_call1_v4 ((select) : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_call1_v4 main_call1_v5 ((broadcastInDim S8192x1 ![0] bcast_S8192_S8192x1_0) : (⟨S8192, .i32⟩ : BufTy).Contents (Elt F) → (⟨S8192x1, .i32⟩ : BufTy).Contents (Elt F)),
    nullary main_call1_c_1 ((constantI S1 32 8191#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S8192x1 ![] bcast_S_S8192x1) : (⟨S_, .i32⟩ : BufTy).Contents (Elt F) → (⟨S8192x1, .i32⟩ : BufTy).Contents (Elt F)),
    binary main_call1_v5 main_call1_v6 main_call1_v7 ((cmpi .sge) : (⟨S8192x1, .i32⟩ : BufTy).Contents (Elt F) → (⟨S8192x1, .i32⟩ : BufTy).Contents (Elt F) → (⟨S8192x1, .i1⟩ : BufTy).Contents (Elt F)),
    unary main_call1_c_1 main_call1_v8 ((broadcastInDim S1x1 ![1] bcast_S1_S1x1_1) : (⟨S1, .i32⟩ : BufTy).Contents (Elt F) → (⟨S1x1, .i32⟩ : BufTy).Contents (Elt F)),
    unary main_call1_v8 main_call1_v9 ((broadcastInDim S8192x1 ![0, 1] bcast_S1x1_S8192x1_0_1) : (⟨S1x1, .i32⟩ : BufTy).Contents (Elt F) → (⟨S8192x1, .i32⟩ : BufTy).Contents (Elt F)),
    binary main_call1_v5 main_call1_v9 main_call1_v10 ((cmpi .sle) : (⟨S8192x1, .i32⟩ : BufTy).Contents (Elt F) → (⟨S8192x1, .i32⟩ : BufTy).Contents (Elt F) → (⟨S8192x1, .i1⟩ : BufTy).Contents (Elt F)),
    binary main_call1_v7 main_call1_v10 main_call1_v11 ((andi) : (⟨S8192x1, .i1⟩ : BufTy).Contents (Elt F) → (⟨S8192x1, .i1⟩ : BufTy).Contents (Elt F) → (⟨S8192x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S8192x1_S8192_d1 h_S_) : (⟨S8192x1, .i1⟩ : BufTy).Contents (Elt F) → (⟨S_, .i1⟩ : BufTy).Contents (Elt F) → (⟨S8192, .i1⟩ : BufTy).Contents (Elt F)),
    binary main_arg1 main_call1_v5 main_call1_v13 ((fun x i => Host.gather gather_S8192x32_S8192x1_S8192x32_1_0_n_n_0_1_132 x i) : (⟨S8192x32, .f32⟩ : BufTy).Contents (Elt F) → (⟨S8192x1, .i32⟩ : BufTy).Contents (Elt F) → (⟨S8192x32, .f32⟩ : BufTy).Contents (Elt F)),
    unary main_call1_v12 main_call1_v14 ((broadcastInDim S8192x32 ![0] bcast_S8192_S8192x32_0) : (⟨S8192, .i1⟩ : BufTy).Contents (Elt F) → (⟨S8192x32, .i1⟩ : BufTy).Contents (Elt F)),
    nullary main_call1_cst ((constant S_ .f32 0x7FC00000#32) : (⟨S_, .f32⟩ : BufTy).Contents (Elt F)),
    unary main_call1_cst main_call1_v15 ((broadcastInDim S8192x32 ![] bcast_S_S8192x32) : (⟨S_, .f32⟩ : BufTy).Contents (Elt F) → (⟨S8192x32, .f32⟩ : BufTy).Contents (Elt F)),
    ternary main_call1_v14 main_call1_v13 main_call1_v15 main_v18 ((select) : (⟨S8192x32, .i1⟩ : BufTy).Contents (Elt F) → (⟨S8192x32, .f32⟩ : BufTy).Contents (Elt F) → (⟨S8192x32, .f32⟩ : BufTy).Contents (Elt F) → (⟨S8192x32, .f32⟩ : BufTy).Contents (Elt F)) ]

/-- @main is these operations in order. -/
theorem main_eq (d : Dev nD) : main (F := F) d = seq (opsA ++ (opsB ++ opsC)) := by
  chain_rfl

/-- The program scopes no buffer, -/
theorem scopes_no_refs : (Finset.univ.filter fun b : Ref sig .tc => b.isScoped) = ∅ := by decide
/-- and no counter. -/
theorem scopes_no_sems : (Finset.univ.filter fun s : SemLoc sig => s.isScoped .tc) = ∅ := by decide

/-- Its operations name only buffers of the TensorCore, -/
theorem ops_sub : (opsA ++ (opsB ++ opsC) : List (HloOp τ sig (Elt F))).Forall fun op => op.bufs ⊆ tcRefs τ sig :=
  List.forall_append.2 ⟨⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩,
    List.forall_append.2 ⟨⟨nullary_bufs_sub .., nullary_bufs_sub .., nullary_bufs_sub .., quaternary_bufs_sub .., quaternary_bufs_sub ..⟩,
      ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩⟩⟩

/-- and each says what it leaves. -/
theorem ops_fresh : ∀ op ∈ (opsA ++ (opsB ++ opsC) : List (HloOp τ sig (Elt F))), op.fresh = ∅ := by
  intro op h
  repeat (cases h with
    | head => rfl
    | tail _ h => ?_)
  exact nomatch h

end Program

variable (m : (ℓ : Loc nD τ sig) → Buf (Elt Ideal) ℓ) (d : Dev nD)

/-- The program's two arguments. -/
abbrev queries : FVec Ideal S8192x32 .f32 := m ((d.tc : Thread nD τ).loc main_arg0)
abbrev book : FVec Ideal S8192x32 .f32 := m ((d.tc : Thread nD τ).loc main_arg1)

/-- The buffers when the table is made, -/
@[irreducible] def VA : Valuation τ sig (Elt Ideal) := after opsA (launchContents m d)
/-- The definition, spelt out. -/
theorem VA_eq : VA m d = after opsA (launchContents m d) := by unfold VA; rfl
/-- when it is searched, -/
@[irreducible] def VB : Valuation τ sig (Elt Ideal) := after opsB (VA m d)
/-- The definition, spelt out. -/
theorem VB_eq : VB m d = after opsB (VA m d) := by unfold VB; rfl
/-- and at the end. -/
@[irreducible] def VC : Valuation τ sig (Elt Ideal) := after opsC (VB m d)
/-- The definition, spelt out. -/
theorem VC_eq : VC m d = after opsC (VB m d) := by unfold VC; rfl

/-- The first part leaves the table of distances, -/
theorem VA_v16 : VA m d (Proc.devRef .tc main_v16) = NearestRefIdeal.Search.dist (queries m d) (book m d) := by
  rw [VA_eq]
  after_results <;> rfl
/-- and the arguments. -/
theorem VA_arg0 : VA m d (Proc.devRef .tc main_arg0) = queries m d := by
  rw [VA_eq]
  after_results <;> rfl
theorem VA_arg1 : VA m d (Proc.devRef .tc main_arg1) = book m d := by
  rw [VA_eq]
  after_results <;> rfl

/-- The second part leaves the answers of the search, -/
theorem VB_v17 : VB m d (Proc.devRef .tc main_v17) = answer (queries m d) (book m d) := by
  rw [NearestRefIdeal.Search.answer_eq, ← VA_v16, VB_eq]
  after_results <;> rfl
/-- and the arguments. -/
theorem VB_arg0 : VB m d (Proc.devRef .tc main_arg0) = queries m d := by
  rw [← VA_arg0, VB_eq]
  after_results <;> rfl
theorem VB_arg1 : VB m d (Proc.devRef .tc main_arg1) = book m d := by
  rw [← VA_arg1, VB_eq]
  after_results <;> rfl

/-- The third part leaves what `take` gives, -/
theorem VC_v18 : VC m d (Proc.devRef .tc main_v18)
    = take (F := Ideal) (VB m d (Proc.devRef .tc main_arg1)) (VB m d (Proc.devRef .tc main_v17)) := by
  rw [VC_eq]
  after_results <;> rfl
/-- the answers, -/
theorem VC_v17 : VC m d (Proc.devRef .tc main_v17) = answer (queries m d) (book m d) := by
  rw [← VB_v17, VC_eq]
  after_results <;> rfl
/-- and the arguments. -/
theorem VC_arg0 : VC m d (Proc.devRef .tc main_arg0) = queries m d := by
  rw [← VB_arg0, VC_eq]
  after_results <;> rfl
theorem VC_arg1 : VC m d (Proc.devRef .tc main_arg1) = book m d := by
  rw [← VB_arg1, VC_eq]
  after_results <;> rfl

/-- Every answer of the search is below 8192. -/
theorem answer_lt (z c : FVec Ideal S8192x32 .f32) (r : Fin 8192) : (answer z c (ix1 r)).toNat < 8192 := by
  obtain ⟨k, hk⟩ := exists_at (NearestRefIdeal.Search.row (NearestRefIdeal.Search.dist z c) r) (n := 8192) (by norm_num)
  rw [NearestRefIdeal.Search.answer_apply z c r hk, BitVec.toNat_ofNat]
  exact lt_of_le_of_lt (Nat.mod_le _ _) hk.1

/-- The first result is the rows of the codebook at the answers. -/
theorem rows_eq : VC m d (Proc.devRef .tc main_v18) = rowsAt (F := Ideal) (book m d) (answer (queries m d) (book m d)) := by
  rw [VC_v18, VB_arg1, VB_v17]
  exact take_eq _ _ (answer_lt _ _)

/-- Every run of the reference ends with the rows at the answers, the answers, and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18) = rowsAt (F := Ideal) (book m c) (answer (queries m c) (book m c))
      ∧ r.2.mem ((c.tc : Thread nD τ).loc main_v17) = answer (queries m c) (book m c)
      ∧ r.2.mem ((c.tc : Thread nD τ).loc main_arg0) = queries m c
      ∧ r.2.mem ((c.tc : Thread nD τ).loc main_arg1) = book m c := by
  have e (c : Dev nD) : after (opsA ++ (opsB ++ opsC)) (launchContents m c) = VC m c := by
    rw [VC_eq, VB_eq, VA_eq, after_append, after_append]
  refine (θ_run _ _ _).mono (fun r h c => ?_)
    (run_seq scopes_no_refs scopes_no_sems defs main (fun _ => opsA ++ (opsB ++ opsC)) main_eq (fun _ => ops_sub) m ρ (fun _ => ops_fresh))
  have hc (b : Ref sig .tc) := (h c b).trans (congrFun (e c) _)
  exact ⟨(hc main_v18).trans (rows_eq m c), (hc main_v17).trans (VC_v17 m c), (hc main_arg0).trans (VC_arg0 m c),
    (hc main_arg1).trans (VC_arg1 m c)⟩

/-- The reference runs, leaves its arguments and ends with every counter at zero. -/
theorem frame (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2.2, sem_eq_zero_of_no_sems rfl r.2⟩) (run m ρ)

end Cert.ReferenceIdeal.Both

end
-- ==== Proof.NearClaims.lean ====
/-
  The TensorCore call alone (`Nearest`, `NearestIdeal`) against its reference (`NearestRefIdeal`): what the
  precondition `finite` says of the arguments, and the value claim.
-/
module

public import proofs.«01_k».proof.Defs
public import proofs.«01_k».proof.Proof.Near
public import proofs.«01_k».proof.Proof.Gen.Pre_finite
public import Idealize.ShloMosaic.Lib.ReduceAll
public import Idealize.ShloMosaic.Lib.KernelVsHost

@[expose] public section

namespace Cert.NearestIdeal.Near

open Idealize.ShloMosaic Idealize.SL.Sem Idealize.ShloMosaic.TcCoe

/-- A value whose absolute value compares below `+∞` is neither infinity. -/
theorem finite_of_olt {x : Ideal .f32}
    (h : FloatOps.cmpf .olt (FloatOps.hostAbsf x) (FloatOps.ofBits (F := Ideal) .f32 0x7F800000#32) = 1#1) :
    x ≠ ⊥ ∧ x ≠ ⊤ := by
  rw [← Idealize.ShloMosaic.Ideal.xori_weird_eq_hostAbsf_olt_inf] at h
  by_contra hx
  have hx' : x = ⊤ ∨ x = ⊥ := by tauto
  have hw : FloatOps.weird x = 1#1 := by
    show BitVec.ofBool (decide ((x : EReal) = ⊤ ∨ (x : EReal) = ⊥)) = 1#1
    simp [hx']
  rw [hw] at h
  exact absurd h (by decide)

/-- The precondition says that every entry of both arguments is a real number. -/
theorem finite_of_pre {x y : FVec Ideal S8192x32 .f32} (h : Cert.Pre_finite.fn x y = fun _ => 1#1) : Finite x ∧ Finite y := by
  have h0 := congrFun h ix0
  dsimp only [Cert.Pre_finite.fn] at h0
  obtain ⟨hx, hy⟩ := IntOp.andi_eq_one.1 h0
  haveI : Subsingleton (Cert.Pre_finite.S_).Idx := ⟨fun a b => funext fun i => i.elim0⟩
  exact ⟨fun i => finite_of_olt (Host.reduce_andi_all _ _ _ _ _ hx i),
    fun i => finite_of_olt (Host.reduce_andi_all _ _ _ _ _ hy i)⟩

/-- From memories with equal, finite arguments the kernel and the reference end with the same array of indices. -/
theorem algebraic : Cert.algebraic_NearestIdeal_NearestRefIdeal_pre_finite := by
  intro m g m' g' hpre hagree
  refine ⟨fun c => Cert.NearestRefIdeal.Search.answer (m ((c.tc : Thread nD τ).loc main_arg0)) (m ((c.tc : Thread nD τ).loc main_arg1)), ?_, ?_⟩
  · run_from (Gen.run_main m g)
    exact out m c (finite_of_pre (hpre c)).1 (finite_of_pre (hpre c)).2
  · refine (θ_run _ _ _).mono (fun r h c => ?_) (Cert.NearestRefIdeal.Search.run m' g')
    obtain ⟨h1, h2, h3⟩ := h c
    exact ⟨h1.trans (congrArg₂ Cert.NearestRefIdeal.Search.answer (hagree c).1 (hagree c).2), h2, h3⟩

end Cert.NearestIdeal.Near
-- ==== Proof.KernelClaims.lean ====
/-
  The whole kernel (`KernelIdeal`) against the whole reference (`ReferenceIdeal`): the frames, which need nothing of the
  arguments, and the value claim on finite arguments.  Both programs end with the positions of the first least distances and
  the codebook's rows at them.
-/
module

public import proofs.«01_k».proof.Defs
public import proofs.«01_k».proof.Proof.KernelValue
public import proofs.«01_k».proof.Proof.RefRun
public import proofs.«01_k».proof.Proof.NearClaims

@[expose] public section

noncomputable section

namespace Cert.KernelIdeal.Tile

open Cert.KernelIdeal Cert.KernelIdeal.Gen Cert.HostOps
open Idealize.ShloMosaic Idealize.SL.Sem Idealize.ShloMosaic.TcCoe

/-- The kernel runs, leaves its arguments and ends with every counter at zero. -/
theorem frame : Cert.quiescent_KernelIdeal := fun m g _ =>
  (θ_run _ _ _).mono (fun r h => ⟨fun c => (h.1 c).2.2, h.2⟩) (run m g)
/-- The same, stated for finite arguments. -/
theorem frame_finite : Cert.quiescent_KernelIdeal_pre_finite := fun m g _ =>
  (θ_run _ _ _).mono (fun r h => ⟨fun c => (h.1 c).2.2, h.2⟩) (run m g)

/-- So does the reference. -/
theorem frame_ref : Cert.quiescent_ReferenceIdeal := fun m g _ => Cert.ReferenceIdeal.Both.frame m g
/-- The same, stated for finite arguments. -/
theorem frame_ref_finite : Cert.quiescent_ReferenceIdeal_pre_finite := fun m g _ => Cert.ReferenceIdeal.Both.frame m g

/-- From memories with equal, finite arguments the kernel and the reference end with the same rows and the same indices. -/
theorem algebraic : Cert.algebraic_KernelIdeal_ReferenceIdeal_pre_finite := by
  intro m g m' g' hpre hagree
  have hv (c : Dev nD) := position_eq m c (NearestIdeal.Near.finite_of_pre (hpre c)).1 (NearestIdeal.Near.finite_of_pre (hpre c)).2
  refine ⟨fun c => rowsAt (book m c) (position (V₁ m) c), fun c => position (V₁ m) c, ?_, ?_⟩
  · exact (θ_run _ _ _).mono (fun r h => h.1) (run m g)
  · refine (θ_run _ _ _).mono (fun r h c => ?_) (Cert.ReferenceIdeal.Both.run m' g')
    obtain ⟨h1, h2, h3, h4⟩ := h c
    have ez : Cert.ReferenceIdeal.Both.queries m' c = queries m c := (hagree c).1
    have ec : Cert.ReferenceIdeal.Both.book m' c = book m c := (hagree c).2
    rw [ez, ec, ← hv c] at h1 h2
    exact ⟨h1, h2, h3, h4⟩

end Cert.KernelIdeal.Tile

end
-- ==== Proof.LookupTile.lean ====
/-
  One tile's task of the SparseCore lookup: the program and its ghost state, what a tile's copies and streams bring, and
  the tile's run, its two blocks of the result holding the rows that its indices name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise
public import proofs.«01_k».proof.Proof.Gen.Lookup
public import proofs.«01_k».proof.Proof.Gen.Lookup.Skeleton

@[expose] public section

noncomputable section

namespace Cert.Lookup.Tile

open Cert.Lookup Cert.Lookup.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state of its launch -/

/-- The labels of the program without the SparseCores, -/
abbrev ΛP : Labels := Pipeline.Sig Λ₀ (Fin 0) fun p => (pcfgs (F := F) p).Adm
/-- the SparseCores' part of the program, -/
abbrev K : SparseCore.Cfg τ sig (ΛP (F := F)) 1 := sc (F := F)
/-- the bodies that the labels name, -/
abbrev D [FloatOps F] : Defs nD τ sig (Elt F) (ΛP (F := F)) := Pipeline.defs pcfgs defs₀
/-- and the variants: no loop of the program has one. -/
abbrev 𝒱₀ : Variants := Variants.none
abbrev 𝒱 : Variants := 𝒱₀.lift
abbrev v₀ : 𝒱.V := Sum.inl none
/-- The ghost state: the rounds of the SparseCores' handshakes, -/
abbrev UH : Type := URounds (GSem nD τ sig) ℕ
/-- and with them the counts of the tiles' copies. -/
abbrev UU : Type := UH × Counters

local notation "𝕄" => MT nD τ sig (HIx 1) (Elt F) ℕ UU ℕ

/-- Where the handshakes' rounds lie in the ghost state. -/
abbrev EH : Emb UH (MT nD τ sig (HIx 1) (Elt F) ℕ UU ℕ) := embL

/-- The side conditions of the SparseCores' launch: which counters are apart and outlive the tasks, and whose the buffers are. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The arrays the call names, and their parts -/

/-- The padded codebook, the index array and the result array as locations of a device; -/
abbrev tabLoc (d : Dev nD) : Loc nD τ sig := (SparseCore.T d).loc main_v3
abbrev idxLoc (d : Dev nD) : Loc nD τ sig := (SparseCore.T d).loc main_v0
abbrev outLoc (d : Dev nD) : Loc nD τ sig := (SparseCore.T d).loc main_v4

/-- the same as a tile names them, and the tile's list of indices and its buffer of rows. -/
abbrev tabV : Memref sig .scVector .hbm S8192x128 .f32 := Memref.whole main_v3_scv
abbrev idxV : Memref sig .scVector .hbm S32x2x128 .i32 := Memref.whole main_v0_scv
abbrev outV : Memref sig .scVector .hbm S8192x128 .f32 := Memref.whole main_v4_scv
abbrev listV : Memref sig .scVector .vmem S2x128 .i32 := Memref.whole cc0_scratch0
abbrev rowsV : Memref sig .scVector .vmem S128x128 .f32 := Memref.whole cc0_scratch1

/-- The index array divides into 32 pages, -/
theorem idx_div : 32 ∣ S32x2x128.size 0 := ⟨1, rfl⟩
/-- the result array into 64 blocks. -/
theorem out_div : 64 ∣ S8192x128.size 0 := ⟨128, rfl⟩
/-- Page `w` of the index array; block `b` (128 rows) of the result. -/
abbrev page (w : Fin 32) : Rect S32x2x128 := Rect.part (s := S32x2x128) (a₀ := 0) idx_div w
abbrev block (b : Fin 64) : Rect S8192x128 := Rect.part (s := S8192x128) (a₀ := 0) out_div b

/-- What the call takes: the padded codebook, the index array, what the result array held before. -/
structure Args (F : FTy → Type) where
  tab : (d : Dev nD) → Buf (Elt F) (tabLoc d)
  idx : (d : Dev nD) → Buf (Elt F) (idxLoc d)
  old : (d : Dev nD) → Buf (Elt F) (outLoc d)

variable (A : Args F)

/-- Every index names a row of the padded codebook. -/
def InRange : Prop := ∀ (d : Dev nD) (j : S32x2x128.Idx), (A.idx d j : BitVec 32).toNat < 8192

/-- The index that belongs to row `r` of the result. -/
def rowIdx (r : Fin 8192) : S32x2x128.Idx := ix3 (⟨r.val / 256, by omega⟩ : Fin 32) (⟨r.val % 256 / 128, by omega⟩ : Fin 2) (⟨r.val % 128, by omega⟩ : Fin 128)

/-- The result: row `r` is the table's row that `r`'s index names. -/
def res (d : Dev nD) : Buf (Elt F) (outLoc d) := fun (j : S8192x128.Idx) =>
  A.tab d (ix2 (⟨(A.idx d (rowIdx (j 0)) : BitVec 32).toNat % 8192, Nat.mod_lt _ (by decide)⟩ : Fin 8192) (j 1))

/-- A share of the table for each of the 32 tiles. -/
abbrev share (w : Fin 32) : PosShare TreeShare := Transfers.dealOf fullShare Finset.univ w

section Tile

variable (d : Dev nD) (L : grid0.Coords)

/-- The tile's SparseCore, its place there, and its thread. -/
abbrev coreOf (L : grid0.Coords) : Fin τ.nSC := (L 0).castLE hcore0
abbrev tileOf (L : grid0.Coords) : Fin τ.nSub := (L 1).castLE hsub0
abbrev VT (d : Dev nD) (L : grid0.Coords) : Thread nD τ := V d (coreOf L) (tileOf L)

/-- The tile's page of the index array and its two blocks of the result, as the body slices them. -/
abbrev pageK (L : grid0.Coords) : Rect S32x2x128 := Rect.unit (s := S32x2x128) (k0_off1 L) S1x2x128.size (k0_off1_inb L)
abbrev pageV (L : grid0.Coords) : Memref sig .scVector .hbm S2x128 .i32 := ((idxV).slice (pageK L) (fun _ => rfl)).squeeze S2x128 squeezes_S1x2x128_S2x128
abbrev blockK0 (L : grid0.Coords) : Rect S8192x128 := Rect.unit (s := S8192x128) (k0_off2 L 0#32) S128x128.size (k0_off2_inb L 0)
abbrev blockK1 (L : grid0.Coords) : Rect S8192x128 := Rect.unit (s := S8192x128) (k0_off2 L 128#32) S128x128.size (k0_off2_inb L 1)
abbrev blockV0 (L : grid0.Coords) : Memref sig .scVector .hbm S128x128 .f32 := (outV).slice (blockK0 L) (fun _ => rfl)
abbrev blockV1 (L : grid0.Coords) : Memref sig .scVector .hbm S128x128 .f32 := (outV).slice (blockK1 L) (fun _ => rfl)

/-- The copies' counters by number. -/
abbrev csem (k : Nat) (hk : k < 4 := by decide) : DmaSem sig := ⟨k, hk⟩
/-- The tile's four DMA counters at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0)

/-- What the first copy brings into the tile's memory: its page of the index array. -/
abbrev fetched : S2x128.Idx → Elt F .i32 := ReadAs.same.apply ((pageV L).view.read (Elt F) (A.idx d))

/-- An entry of it is the index array's entry at the page's place. -/
theorem fetched_apply (x : S2x128.Idx) : fetched A d L x = A.idx d ((pageV L).view.emb x) :=
  (View.read_apply _ _).trans (cast_eq _ _)

/-- Row `128 j + y` of the tile's 256 rows of the result. -/
def rowAt (L : grid0.Coords) (j : Fin 2) (y : Fin 128) : Fin 8192 :=
  ⟨512 * (L 1).val + 256 * (L 0).val + 128 * j.val + y.val, by
    have h0 : (L 0).val < 2 := (L 0).isLt
    have h1 : (L 1).val < 16 := (L 1).isLt
    omega⟩

/-- Entry `(j, y)` of the tile's page is the index of the tile's row `128 j + y`. -/
theorem page_emb (j : Fin 2) (y : Fin 128) : (pageV L).view.emb (ix2 j y) = rowIdx (rowAt L j y) := by
  have h0 : (L 0).val < 2 := (L 0).isLt
  have h1 : (L 1).val < 16 := (L 1).isLt
  have e : (pageV L).view.emb (ix2 j y) = (pageK L).emb (Shape.reshapeEquiv squeezes_S1x2x128_S2x128.numel_eq (ix2 j y)) := rfl
  have hr : Shape.reshapeEquiv squeezes_S1x2x128_S2x128.numel_eq (ix2 j y) = (ix3 (0 : Fin 1) j y : S1x2x128.Idx) :=
    Shape.reshapeEquiv_eq_of_rowMajor (s := S1x2x128) (s' := S2x128) _
      (by rw [rowMajor_val3 _ 256 128 rfl rfl, rowMajor_val2 _ 128 rfl]; simp [ix3, ix2])
  rw [e, hr]
  funext a
  refine Fin.ext ?_
  simp only [Rect.emb_apply, Rect.off_unit, Rect.stride_unit, k0_off1_eq]
  fin_cases a <;> simp [rowIdx, rowAt] <;> omega

/-- A row of the fetched page as the stream reads it: entry `y` of row `j` is the index of the tile's row `128 j + y`. -/
theorem list_read (g0 : Buf (Elt F) ((listV).view.loc (VT d L)))
    (pay : S2x128.Idx → Elt F .i32) (hpay : pay = fetched A d L) (j : Fin 2)
    (hk : ∀ a, (![j.val, 0] : Fin 2 → Nat) a + S1x128.size a ≤ S2x128.size a)
    (hq : (Rect.unit (s := S2x128) ![j.val, 0] S1x128.size hk).shape.Squeezes S128) (x : S128.Idx) :
    View.read (Elt F) ((((listV).slice (Rect.unit (s := S2x128) ![j.val, 0] S1x128.size hk) (fun _ => rfl)).squeeze S128 hq)).view
      ((listV).view.writes (Elt F) g0 [⟨Rect.whole cc0_scratch0.ty.shape, pay⟩]) x = A.idx d (rowIdx (rowAt L j (x 0))) := by
  subst hpay
  have e : View.read (Elt F) ((((listV).slice (Rect.unit (s := S2x128) ![j.val, 0] S1x128.size hk) (fun _ => rfl)).squeeze S128 hq)).view
        ((listV).view.writes (Elt F) g0 [⟨Rect.whole cc0_scratch0.ty.shape, fetched A d L⟩]) x
      = View.read (Elt F) (listV).view ((listV).view.writes (Elt F) g0 [⟨Rect.whole cc0_scratch0.ty.shape, fetched A d L⟩])
          ((Rect.unit (s := S2x128) ![j.val, 0] S1x128.size hk).emb ((Shape.reshapeEquiv hq.numel_eq) x)) := by
    rw [View.read_apply, View.read_apply]; rfl
  rw [e, show View.read (Elt F) (listV).view ((listV).view.writes (Elt F) g0 [⟨Rect.whole cc0_scratch0.ty.shape, fetched A d L⟩]) = fetched A d L from View.read_writes_whole _ _ _, fetched_apply]
  have hx : (Rect.unit (s := S2x128) ![j.val, 0] S1x128.size hk).emb ((Shape.reshapeEquiv hq.numel_eq) x) = ix2 j (x 0) := by
    have hr : Shape.reshapeEquiv hq.numel_eq x = (ix2 (0 : Fin 1) (x 0) : S1x128.Idx) :=
      Shape.reshapeEquiv_eq_of_rowMajor (s := S1x128) (s' := S128) _
        (by rw [rowMajor_val2 _ 128 rfl, rowMajor_val1]; simp [ix2])
    rw [hr]
    funext a
    refine Fin.ext ?_
    simp only [Rect.emb_apply, Rect.off_unit, Rect.stride_unit]
    fin_cases a <;> simp [ix2]
  rw [hx]
  exact congrArg (A.idx d) (page_emb L j (x 0))

/-- Every word of a row of the fetched page is in range, whatever the buffer held before. -/
theorem list_inRange (h : InRange A) (g0 : Buf (Elt F) ((listV).view.loc (VT d L)))
    (pay : S2x128.Idx → Elt F .i32) (hpay : pay = fetched A d L) (j : Fin 2)
    (hk : ∀ a, (![j.val, 0] : Fin 2 → Nat) a + S1x128.size a ≤ S2x128.size a)
    (hq : (Rect.unit (s := S2x128) ![j.val, 0] S1x128.size hk).shape.Squeezes S128) :
    ∀ x, (View.read (Elt F) ((((listV).slice (Rect.unit (s := S2x128) ![j.val, 0] S1x128.size hk) (fun _ => rfl)).squeeze S128 hq)).view
      ((listV).view.writes (Elt F) g0 [⟨Rect.whole cc0_scratch0.ty.shape, pay⟩]) x).toNat < 8192 := by
  intro x
  rw [list_read A d L g0 pay hpay j hk hq x]
  exact h d _

/-- The rows gathered by a list that names, for the tile's row `128 j + y`, that row's index: entry `(y, k)` is the
    result's. -/
theorem gathered_apply (h : InRange A) (j : Fin 2) (hg : S8192x128.Gathers 0 S128x128) (t : S8192x128.Idx → Elt F .f32) (ht : t = A.tab d)
    (l : S128.Idx → Elt F .i32) (hl : ∀ x, l x = A.idx d (rowIdx (rowAt L j (x 0))))
    (hn : S128.numel = S128x128.size hg.axis') (hin : ∀ x, (l x).toNat < S8192x128.size hg.axis) (y : S128x128.Idx) :
    SparseCore.gatherPayload hg t (SparseCore.rows l hn hin) y = res A d (ix2 (rowAt L j (y 0)) (y 1)) := by
  subst ht
  unfold SparseCore.gatherPayload res
  refine congrArg (A.tab d) ?_
  have hy : (S128.rowMajor.symm ((y hg.axis').cast hn.symm)) 0 = y 0 := by
    refine Fin.ext ?_
    have := rowMajor_val1 (S128.rowMajor.symm ((y hg.axis').cast hn.symm))
    rw [← this, Equiv.apply_symm_apply]
    rfl
  have hv : (A.idx d (rowIdx (rowAt L j (y 0))) : BitVec 32).toNat < 8192 := h d _
  funext a
  refine Fin.ext ?_
  match a with
  | ⟨0, _⟩ =>
    refine (congrArg Fin.val (Shape.Gathers.idx_axis hg _ y)).trans ?_
    change (l _).toNat = _ % 8192
    rw [hl, hy]
    exact (Nat.mod_eq_of_lt hv).symm
  | ⟨1, _⟩ => exact Shape.Gathers.idx_of_ne hg _ y (⟨1, by decide⟩ : Fin 2) (by decide)

/-- A block the tile's gathered rows were copied to holds the result's. -/
theorem block0_value (p : S128x128.Idx → Elt F .f32) (hp : ∀ y : S128x128.Idx, p y = res A d (ix2 (rowAt L 0 (y 0)) (y 1)))
    (i : S8192x128.Idx) (hi : i ∈ (blockV0 L).view.set) :
    (blockV0 L).view.writes (Elt F) (A.old d) [⟨Rect.whole S128x128, p⟩] i = res A d i := by
  obtain ⟨y, -, rfl⟩ := Finset.mem_map.mp hi
  have e := congrFun (View.read_writes_whole (Val := Elt F) (blockV0 L).view (A.old d) p) y
  rw [View.read_apply, cast_eq, hp] at e
  refine e.trans (congrArg (res A d) ?_)
  funext a
  refine Fin.ext ?_
  change _ = ((blockK0 L).emb y a).val
  have hk := k0_off2_eq L 0
  simp only [Rect.emb_apply, Rect.off_unit, Rect.stride_unit]
  rw [show k0_off2 L 0#32 = _ from hk]
  fin_cases a <;> simp [rowAt, ix2]

/-- Holding the first block as written is holding the result there. -/
theorem block0_pts (p : S128x128.Idx → Elt F .f32) (hp : ∀ y : S128x128.Idx, p y = res A d (ix2 (rowAt L 0 (y 0)) (y 1))) :
    (((blockV0 L).view.loc (VT d L) ↦[(blockV0 L).view.set]{fullShare} (blockV0 L).view.writes (Elt F) (A.old d) [⟨Rect.whole S128x128, p⟩]) : sProp 𝕄)
      = ((blockV0 L).view.loc (VT d L) ↦[(blockV0 L).view.set]{fullShare} res A d) :=
  pointsTo_congr (block0_value A d L p hp)

/-- The same of the second block. -/
theorem block1_value (p : S128x128.Idx → Elt F .f32) (hp : ∀ y : S128x128.Idx, p y = res A d (ix2 (rowAt L 1 (y 0)) (y 1)))
    (i : S8192x128.Idx) (hi : i ∈ (blockV1 L).view.set) :
    (blockV1 L).view.writes (Elt F) (A.old d) [⟨Rect.whole S128x128, p⟩] i = res A d i := by
  obtain ⟨y, -, rfl⟩ := Finset.mem_map.mp hi
  have e := congrFun (View.read_writes_whole (Val := Elt F) (blockV1 L).view (A.old d) p) y
  rw [View.read_apply, cast_eq, hp] at e
  refine e.trans (congrArg (res A d) ?_)
  funext a
  refine Fin.ext ?_
  change _ = ((blockK1 L).emb y a).val
  have hk := k0_off2_eq L 1
  simp only [Rect.emb_apply, Rect.off_unit, Rect.stride_unit]
  rw [show k0_off2 L 128#32 = _ from hk]
  fin_cases a <;> simp [rowAt, ix2]

/-- So of the second block. -/
theorem block1_pts (p : S128x128.Idx → Elt F .f32) (hp : ∀ y : S128x128.Idx, p y = res A d (ix2 (rowAt L 1 (y 0)) (y 1))) :
    (((blockV1 L).view.loc (VT d L) ↦[(blockV1 L).view.set]{fullShare} (blockV1 L).view.writes (Elt F) (A.old d) [⟨Rect.whole S128x128, p⟩]) : sProp 𝕄)
      = ((blockV1 L).view.loc (VT d L) ↦[(blockV1 L).view.set]{fullShare} res A d) :=
  pointsTo_congr (block1_value A d L p hp)

variable [FloatOps F]

/-- The table read through its whole slice is the table. -/
theorem tab_read (hk : ∀ a, (![0, 0] : Fin 2 → Nat) a + S8192x128.size a ≤ S8192x128.size a)
    (hs : ∀ a, (Rect.unit (s := S8192x128) ![0, 0] S8192x128.size hk).stride a = 1) :
    View.read (Elt F) ((tabV).slice (Rect.unit (s := S8192x128) ![0, 0] S8192x128.size hk) hs).view (A.tab d) = A.tab d := by
  funext i
  rw [View.read_apply, cast_eq]
  refine congrArg (A.tab d) (funext fun a => Fin.ext ?_)
  change ((Rect.unit (s := S8192x128) ![0, 0] S8192x128.size hk).emb i a).val = _
  simp only [Rect.emb_apply, Rect.off_unit, Rect.stride_unit]
  fin_cases a <;> simp

/-- One tile's task: from its page of the indices, a share of the table and its two blocks of the result it runs to the
    end without a fault, the two blocks holding the rows its indices name. -/
theorem tile_run (h : InRange A) (O : CellTallies nD τ sig (HIx 1)) (W : Waits sig (HIx 1)) (q : PosShare TreeShare)
    (g0 : Buf (Elt F) ((listV).view.loc (VT d L))) (t0 : Buf (Elt F) ((rowsV).view.loc (VT d L))) :
    (iprop(Transfers.MayWaits (VT d L) (default : HIx 1) O
        ∗ ((pageV L).view.loc (VT d L) ↦[(pageV L).view.set]{fullShare} A.idx d)
        ∗ ((tabV).view.loc (VT d L) ↦{q} A.tab d)
        ∗ ((blockV0 L).view.loc (VT d L) ↦[(blockV0 L).view.set]{fullShare} A.old d)
        ∗ ((blockV1 L).view.loc (VT d L) ↦[(blockV1 L).view.set]{fullShare} A.old d)
        ∗ ((listV).view.loc (VT d L) ↦[(listV).view.set]{fullShare} g0)
        ∗ ((rowsV).view.loc (VT d L) ↦[(rowsV).view.set]{fullShare} t0)
        ∗ cells0 d L
        ∗ owes (VT d L) O W) : sProp 𝕄)
      ⊢ wp frame (wpE (defs₀ (F := F)) 𝒱₀ (VT d L) none) Set.univ
          (cc0_gk L tabV (Memref.isWhole_whole _) idxV (Memref.isWhole_whole _) outV (Memref.isWhole_whole _)
            listV (Memref.isWhole_whole _) rowsV (Memref.isWhole_whole _) cc0_scratch2 cc0_scoped0 cc0_scoped1 cc0_scoped2)
          fun _ => iprop(((pageV L).view.loc (VT d L) ↦[(pageV L).view.set]{fullShare} A.idx d)
            ∗ ((tabV).view.loc (VT d L) ↦{q} A.tab d)
            ∗ ((blockV0 L).view.loc (VT d L) ↦[(blockV0 L).view.set]{fullShare} res A d)
            ∗ ((blockV1 L).view.loc (VT d L) ↦[(blockV1 L).view.set]{fullShare} res A d)
            ∗ (∃ g, (listV).view.loc (VT d L) ↦[(listV).view.set]{fullShare} g)
            ∗ (∃ g, (rowsV).view.loc (VT d L) ↦[(rowsV).view.set]{fullShare} g)
            ∗ cells0 d L
            ∗ ∃ W', owes (VT d L) O W') := by
  iintro ⟨#Hmw, HI, HX, HO0, HO1, HG, HT, ⟨Hc0, Hc1, Hc2, Hc3⟩, HO⟩
  have hin0 := fun g => list_inRange A d L h g (fetched A d L) rfl 0 inb_S2x128_S1x128_0_0 squeezes_S1x128_S128
  have hin1 := fun g => list_inRange A d L h g (fetched A d L) rfl 1 inb_S2x128_S1x128_1_0 squeezes_S1x128_S128
  sl_unfold [cc0_gk, k0_part1]
  sl_exec
  sl_step
  have e0 : ∀ y, tile_run.sl.dma0_1 A d L t0 hin0 y = res A d (ix2 (rowAt L 0 (y 0)) (y 1)) := fun y => by
    have e : tile_run.sl.dma0_1 A d L t0 hin0 = tile_run.sl.gather1 A d L hin0 := View.read_writes_whole _ _ _
    rw [e]
    exact gathered_apply A d L h 0 _ _ (tab_read A d _ _) _ (fun x => list_read A d L _ _ rfl 0 _ _ x) _ _ y
  have e1 : ∀ y, tile_run.sl.dma0_2 A d L t0 hin0 hin1 y = res A d (ix2 (rowAt L 1 (y 0)) (y 1)) := fun y => by
    have e : tile_run.sl.dma0_2 A d L t0 hin0 hin1 y = tile_run.sl.gather3 A d L hin1 y := by
      have := View.read_writes_cons_emb (Val := Elt F) (rowsV).view t0 (Rect.whole S128x128) (tile_run.sl.gather3 A d L hin1)
        [⟨Rect.whole S128x128, tile_run.sl.gather1 A d L hin0⟩] y
      rwa [Rect.emb_whole_apply] at this
    rw [e]
    exact gathered_apply A d L h 1 _ _ (tab_read A d _ _) _ (fun x => list_read A d L _ _ rfl 1 _ _ x) _ _ y
  have p0 := Entails.of_eq (block0_pts A d L _ e0)
  have p1 := Entails.of_eq (block1_pts A d L _ e1)
  ihave HO0 := p0 $$ HO0
  ihave HO1 := p1 $$ HO1
  sl_close

end Tile

end Cert.Lookup.Tile

end
-- ==== Proof.LookupLaunch.lean ====
/-
  The launch of the SparseCore lookup, for any arrays it may be called on: what a tile is dealt and hands back, the
  tile's obligation, and the arrays as the parts of the 32 tiles.
-/
module

public import proofs.«01_k».proof.Proof.LookupTile

@[expose] public section

noncomputable section

namespace Cert.Lookup.Tile

open Cert.Lookup Cert.Lookup.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} (A : Args F)

local notation "𝕄" => MT nD τ sig (HIx 1) (Elt F) ℕ UU ℕ

/-! ## A tile's parts of the three arrays -/

/-- The tile `(c, i)` as one of 32. -/
def wk (c : Fin 2) (i : Fin 16) : Fin 32 := ⟨2 * i.val + c.val, by omega⟩
/-- A tile's first and second block of the result. -/
def blk (w : Fin 32) (j : Fin 2) : Fin 64 := ⟨2 * w.val + j.val, by omega⟩

/-- Tile `w`'s page of the indices, its share of the table, its two blocks of the result at contents `f`. -/
def piece (d : Dev nD) (f : Buf (Elt F) (outLoc d)) (w : Fin 32) : sProp 𝕄 :=
  iprop((idxLoc d ↦[(page w).set]{fullShare} A.idx d) ∗ (tabLoc d ↦{share w} A.tab d)
    ∗ (outLoc d ↦[(block (blk w 0)).set]{fullShare} f) ∗ (outLoc d ↦[(block (blk w 1)).set]{fullShare} f))

instance piece_storable (d : Dev nD) (f : Buf (Elt F) (outLoc d)) (w : Fin 32) : BI.Storable (upEmb : UEmb _ 𝕄) (piece A d f w) := by
  unfold piece; infer_instance

/-! ## The tile's obligation -/

section Body

variable (d : Dev nD) (L : grid0.Coords)

/-- The tile's coordinates as one of 32. -/
abbrev wL (L : grid0.Coords) : Fin 32 := wk ⟨(L 0).val, (L 0).isLt⟩ ⟨(L 1).val, (L 1).isLt⟩

/-- The page that the body slices is the tile's page, -/
theorem pageK_eq : pageK L = page (wL L) := by
  unfold pageK page Rect.part Rect.block
  congr 1 <;> funext a
  · rw [k0_off1_eq]
    fin_cases a <;> simp [Shape.partIx, Shape.partSize, wL, wk]
  · fin_cases a <;> simp [Shape.partSize]

/-- its first block is the first of the tile's two, -/
theorem blockK0_eq : blockK0 L = block (blk (wL L) 0) := by
  unfold blockK0 block Rect.part Rect.block
  have hk := k0_off2_eq L 0
  congr 1 <;> funext a
  · rw [show k0_off2 L 0#32 = _ from hk]
    fin_cases a <;> simp [Shape.partIx, Shape.partSize, wL, wk, blk] <;> omega
  · fin_cases a <;> simp [Shape.partSize]

/-- and its second block the second. -/
theorem blockK1_eq : blockK1 L = block (blk (wL L) 1) := by
  unfold blockK1 block Rect.part Rect.block
  have hk := k0_off2_eq L 1
  congr 1 <;> funext a
  · rw [show k0_off2 L 128#32 = _ from hk]
    fin_cases a <;> simp [Shape.partIx, Shape.partSize, wL, wk, blk] <;> omega
  · fin_cases a <;> simp [Shape.partSize]

/-- So the page the body names has the page's entries, -/
theorem set_pageV : (pageV L).view.set = (page (wL L)).set := by
  show (((idxV).view.slice (pageK L)).reshape S2x128 squeezes_S1x2x128_S2x128.numel_eq).set = _
  rw [View.set_reshape, View.set_slice, ← pageK_eq]
  exact Finset.map_refl
/-- the first block the first block's, -/
theorem set_blockV0 : (blockV0 L).view.set = (block (blk (wL L) 0)).set := by
  show ((outV).view.slice (blockK0 L)).set = _
  rw [View.set_slice, ← blockK0_eq]
  exact Finset.map_refl
/-- and the second block the second's. -/
theorem set_blockV1 : (blockV1 L).view.set = (block (blk (wL L) 1)).set := by
  show ((outV).view.slice (blockK1 L)).set = _
  rw [View.set_slice, ← blockK1_eq]
  exact Finset.map_refl

/-- A tile's four parts in the body's spelling. -/
theorem piece_eq (f : Buf (Elt F) (outLoc d)) : piece A d f (wL L)
    = iprop(((pageV L).view.loc (VT d L) ↦[(pageV L).view.set]{fullShare} A.idx d)
        ∗ ((tabV).view.loc (VT d L) ↦{share (wL L)} A.tab d)
        ∗ ((blockV0 L).view.loc (VT d L) ↦[(blockV0 L).view.set]{fullShare} f)
        ∗ ((blockV1 L).view.loc (VT d L) ↦[(blockV1 L).view.set]{fullShare} f)) := by
  rw [set_pageV, set_blockV0, set_blockV1]; rfl

/-- The tile's list of indices, whole, -/
theorem pts_listV (f : Buf (Elt F) ((VT d L).loc cc0_scratch0)) :
    ((listV).view.loc (VT d L) ↦[(listV).view.set]{fullShare} f : sProp 𝕄) = (VT d L).loc cc0_scratch0 ↦{fullShare} f := by
  rw [View.set_whole]
/-- and its buffer of rows, whole. -/
theorem pts_rowsV (f : Buf (Elt F) ((VT d L).loc cc0_scratch1)) :
    ((rowsV).view.loc (VT d L) ↦[(rowsV).view.set]{fullShare} f : sProp 𝕄) = (VT d L).loc cc0_scratch1 ↦{fullShare} f := by
  rw [View.set_whole]

/-- The tile's DMA counter `k` as a cell of the machine. -/
def dcell (d : Dev nD) (L : grid0.Coords) (k : Fin 4) : GSem nD τ sig := (VT d L, SemLoc.dma (csem k.val k.isLt))

/-- These counters are among the tile's own. -/
theorem dcell_mem (k : Fin 4) : dcell d L k ∈ ownCells (VT d L) :=
  mem_ownCells.mpr ⟨rfl, (show ∀ k : Fin 4, (SemLoc.dma (csem k.val k.isLt) : SemLoc sig).isScoped .scVector = true by decide) k⟩

/-- The tile's four counters out of all its own. -/
theorem ownSems0_V : (ownSems0 (VT d L) : sProp 𝕄)
    = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [dcell, SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

/-- The tile's two scratch buffers out of all its own. -/
theorem ownBufs_V : (ownBufs (VT d L) : sProp 𝕄)
    = iprop((∃ f, (VT d L).loc cc0_scratch0 ↦{fullShare} f) ∗ (∃ f, (VT d L).loc cc0_scratch1 ↦{fullShare} f)
        ∗ bigSep (((ownRefs (τ := τ) (.scVector (coreOf L) (tileOf L))).erase ((Proc.scVector (coreOf L) (tileOf L)).devRef cc0_scratch0)).erase
            ((Proc.scVector (coreOf L) (tileOf L)).devRef cc0_scratch1))
            fun b => iprop(∃ f, ((d, b) : Loc nD τ sig) ↦{fullShare} f)) := by
  unfold SparseCore.Cfg.ownBufs
  refine (SparseCore.bigSep_erase' (SparseCore.Cfg.mem_ownRefs_of_owner (p := Proc.scVector (coreOf L) (tileOf L))
    (b := (Proc.scVector (coreOf L) (tileOf L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (coreOf L) (tileOf L)) (b := (Proc.scVector (coreOf L) (tileOf L)).devRef cc0_scratch1) rfl⟩)]

variable [FloatOps F]

/-- A tile's task from what the launch deals it to what it hands back, its two blocks holding the result's rows. -/
theorem tile_body (h : InRange A) (O : CellTallies nD τ sig (HIx 1)) (W : Waits sig (HIx 1)) (hO : ∀ g, O g none = 0) :
    iprop(levAts (K (F := F)).L (K (F := F)).lev ∗ emp ∗ piece A d (A.old d) (wL L)
        ∗ scopedBufs (VT d L) ∗ scopedSems0 (VT d L) ∗ owes (VT d L) O W)
      ⊢ wp frame (wpE (defs₀ (F := F)) 𝒱₀ (VT d L) none) Set.univ
          (cc0_gk L tabV (Memref.isWhole_whole _) idxV (Memref.isWhole_whole _) outV (Memref.isWhole_whole _)
            listV (Memref.isWhole_whole _) rowsV (Memref.isWhole_whole _) cc0_scratch2 cc0_scoped0 cc0_scoped1 cc0_scoped2)
          fun _ => iprop(piece A d (res A d) (wL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (coreOf L) (tileOf L), SparseCore.Cfg.scopedSems0_V (Val := Elt F) d (coreOf L) (tileOf L), ownSems0_V, ownBufs_V,
    piece_eq, piece_eq]
  iintro ⟨#Hlv, -, ⟨Hi, Hx, Ho0, Ho1⟩, ⟨⟨%g0, HG⟩, ⟨%t0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (pts_listV (F := F) d L _).symm) $$ HG
  ihave HT' := (Entails.of_eq (pts_rowsV (F := F) d L _).symm) $$ HT
  iapply (wp_wand_r Idealize.ShloMosaic.frame (wpE (defs₀ (F := F)) 𝒱₀ (VT d L) none) Set.univ)
  isplitl [Hi Hx Ho0 Ho1 HG' HT' HC HO]
  · iapply (tile_run A d L h O W (share (wL L)) g0 t0)
    isplitr; · iexact Hmw
    isplitl [Hi]; · iexact Hi
    isplitl [Hx]; · iexact Hx
    isplitl [Ho0]; · iexact Ho0
    isplitl [Ho1]; · iexact Ho1
    isplitl [HG']; · iexact HG'
    isplitl [HT']; · iexact HT'
    isplitl [HC]; · iexact HC
    iexact HO
  iintro %_ ⟨Hi, Hx, Ho0, Ho1, ⟨%g, HG'⟩, ⟨%t, HT'⟩, HC, ⟨%W', HO⟩⟩
  isplitl [Hi Hx Ho0 Ho1]
  · isplitl [Hi]; · iexact Hi
    isplitl [Hx]; · iexact Hx
    isplitl [Ho0]; · iexact Ho0
    iexact Ho1
  isplitl [HG' HT' Hbufs]
  · isplitl [HG']; · iexists _; iapply (Entails.of_eq (pts_listV (F := F) d L _)); iexact HG'
    isplitl [HT']; · iexists _; iapply (Entails.of_eq (pts_rowsV (F := F) d L _)); iexact HT'
    iexact Hbufs
  isplitl [HC Hsems]
  · isplitl [HC]; · iexact HC
    iexact Hsems
  iexists W'; isplitr
  · ipureintro
    intro p _
    rcases hp : p.2 with _ | q
    · exact Or.inr (Or.inl rfl)
    · exact Or.inr (Or.inr (congrArg some (Subsingleton.elim q 0)))
  · iexact HO

end Body

variable [FloatOps F]

/-! ## What the call hands over -/

/-- The call runs on two SparseCores, -/
theorem nCore_zero : (K (F := F)).nCore 0 = 2 := rfl
/-- on sixteen tiles of each. -/
theorem nSub_zero : (K (F := F)).nSub 0 = 16 := rfl

/-- A SparseCore takes its sixteen tiles' parts and brings them back, the result's blocks filled in. -/
def P : (K (F := F)).Pay (nD := nD) (Val := Elt F) (Name := ℕ) (U := UU) where
  st := fun q d c => match q with
    | 0 => bigSep Finset.univ fun i : Fin ((K (F := F)).nSub 0) => piece A d (A.old d) (wk (Fin.cast nCore_zero c) (Fin.cast nSub_zero i))
  dn := fun q d c => match q with
    | 0 => bigSep Finset.univ fun i : Fin ((K (F := F)).nSub 0) => piece A d (res A d) (wk (Fin.cast nCore_zero c) (Fin.cast nSub_zero i))
  go := fun q d c i => match q with
    | 0 => piece A d (A.old d) (wk (Fin.cast nCore_zero c) (Fin.cast nSub_zero i))
  td := fun q d c i => match q with
    | 0 => piece A d (res A d) (wk (Fin.cast nCore_zero c) (Fin.cast nSub_zero i))
  x := fun _ _ => iprop(emp)

instance P_storable : (P A).IsStorable where
  st q d c := match q with
    | 0 => (inferInstance : BI.Storable (upEmb : UEmb _ 𝕄) (bigSep Finset.univ fun i : Fin ((K (F := F)).nSub 0) => piece A d (A.old d) (wk (Fin.cast nCore_zero c) (Fin.cast nSub_zero i))))
  dn q d c := match q with
    | 0 => (inferInstance : BI.Storable (upEmb : UEmb _ 𝕄) (bigSep Finset.univ fun i : Fin ((K (F := F)).nSub 0) => piece A d (res A d) (wk (Fin.cast nCore_zero c) (Fin.cast nSub_zero i))))
  go q d c i := match q with
    | 0 => piece_storable A d _ _
  td q d c i := match q with
    | 0 => piece_storable A d _ _

/-- What a SparseCore takes is its tiles' parts, and their parts brought back are what it brings back. -/
theorem vecSplit : (K (F := F)).VecSplit' (P A) 0 := by
  intro d c
  show (bigSep Finset.univ fun i : Fin ((K (F := F)).nSub 0) => piece A d (A.old d) (wk (Fin.cast nCore_zero c) (Fin.cast nSub_zero i)))
    ⊢ |={Set.univ}=> iprop(
      (bigSep Finset.univ fun i : Fin ((K (F := F)).nSub 0) => piece A d (A.old d) (wk (Fin.cast nCore_zero c) (Fin.cast nSub_zero i)))
      ∗ ((bigSep Finset.univ fun i : Fin ((K (F := F)).nSub 0) => piece A d (res A d) (wk (Fin.cast nCore_zero c) (Fin.cast nSub_zero i)))
          -∗ (bigSep Finset.univ fun i : Fin ((K (F := F)).nSub 0) => piece A d (res A d) (wk (Fin.cast nCore_zero c) (Fin.cast nSub_zero i)))))
  iintro H; imodintro
  isplitl [H]; · iexact H
  iintro H; iexact H

/-- The tile's coordinates from its SparseCore and its place there. -/
def coordsV (c : Fin (grid0.bound 0)) (s : Fin (grid0.bound 1)) : grid0.Coords :=
  fun | 0 => c | 1 => s | ⟨_ + 2, h⟩ => absurd h (Nat.not_lt.2 (Nat.le_add_left _ _))

/-- A tile's row of the table is the body at the tile's coordinates. -/
theorem defs₀_vector (c : Fin τ.nSC) (s : Fin τ.nSub) :
    defs₀ (F := F) (.scVector c s) 0 ()
      = SparseCore.onTile hcore0 hsub0 (fun c s => cc0_gk (coordsV c s) tabV (Memref.isWhole_whole _) idxV (Memref.isWhole_whole _)
          outV (Memref.isWhole_whole _) listV (Memref.isWhole_whole _) rowsV (Memref.isWhole_whole _) cc0_scratch2 cc0_scoped0 cc0_scoped1
          cc0_scoped2) ⟨⟩ c s := rfl

set_option maxRecDepth 16384 in
/-- The body meets what the launch asks of a tile. -/
theorem tileObl (h : InRange A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) h O W hO

/-! ## The three arrays as the tiles' parts -/

omit [FloatOps F] in
/-- The index array is its pages. -/
theorem idx_pages (d : Dev nD) (f : Buf (Elt F) (idxLoc d)) :
    (idxLoc d ↦{fullShare} f : sProp 𝕄) = bigSep Finset.univ fun w : Fin 32 => idxLoc d ↦[(page w).set]{fullShare} f := by
  rw [← pointsTo_biUnion Finset.univ (ℓ := idxLoc d) (fun w : Fin 32 => (page w).set) (fun i _ j _ h => Rect.part_disjoint idx_div h),
    Rect.biUnion_part idx_div]

omit [FloatOps F] in
/-- The result is its 64 blocks, two to a tile. -/
theorem out_blocks (d : Dev nD) (f : Buf (Elt F) (outLoc d)) :
    (outLoc d ↦{fullShare} f : sProp 𝕄) = bigSep Finset.univ fun w : Fin 32 =>
      iprop((outLoc d ↦[(block (blk w 0)).set]{fullShare} f) ∗ (outLoc d ↦[(block (blk w 1)).set]{fullShare} f)) := by
  have e : (outLoc d ↦{fullShare} f : sProp 𝕄) = bigSep Finset.univ fun b : Fin 64 => outLoc d ↦[(block b).set]{fullShare} f := by
    rw [← pointsTo_biUnion Finset.univ (ℓ := outLoc d) (fun b : Fin 64 => (block b).set) (fun i _ j _ h => Rect.part_disjoint out_div h),
      Rect.biUnion_part out_div]
  rw [e, bigSep_univ_equiv (finProdFinEquiv (m := 32) (n := 2)), bigSep_univ_prod]
  refine bigSep_congr fun w _ => ?_
  have e0 : ∀ j : Fin 2, finProdFinEquiv (m := 32) (n := 2) (w, j) = blk w j := fun j =>
    Fin.ext (show j.val + 2 * w.val = 2 * w.val + j.val from Nat.add_comm _ _)
  rw [bigSep_fin_two, e0, e0]
  rfl

omit [FloatOps F] in
/-- The table is a share for each tile. -/
theorem tab_shares (d : Dev nD) (f : Buf (Elt F) (tabLoc d)) :
    (tabLoc d ↦{fullShare} f : sProp 𝕄) = bigSep Finset.univ fun w : Fin 32 => tabLoc d ↦{share w} f :=
  Transfers.pointsTo_deal Finset.univ ⟨0, Finset.mem_univ _⟩ fullShare

omit [FloatOps F] in
/-- Over the 32 tiles is over the two SparseCores and the sixteen tiles of each. -/
theorem bigSep_wk (Φ : Fin 32 → sProp 𝕄) :
    bigSep Finset.univ Φ = bigSep Finset.univ fun c : Fin 2 => bigSep Finset.univ fun i : Fin 16 => Φ (wk c i) := by
  rw [bigSep_univ_equiv ((Equiv.prodComm (Fin 2) (Fin 16)).trans (finProdFinEquiv (m := 16) (n := 2))), bigSep_univ_prod]
  refine bigSep_congr fun c _ => bigSep_congr fun i _ => congrArg Φ (Fin.ext ?_)
  show c.val + 2 * i.val = 2 * i.val + c.val
  exact Nat.add_comm _ _

omit [FloatOps F] in
/-- The three arrays, whole, are the tiles' parts. -/
theorem whole_eq (d : Dev nD) (f : Buf (Elt F) (outLoc d)) :
    (iprop((idxLoc d ↦{fullShare} A.idx d) ∗ (tabLoc d ↦{fullShare} A.tab d) ∗ (outLoc d ↦{fullShare} f)) : sProp 𝕄)
      = bigSep Finset.univ fun c : Fin 2 => bigSep Finset.univ fun i : Fin 16 => piece A d f (wk c i) := by
  rw [← bigSep_wk (fun w => piece A d f w)]
  unfold piece
  rw [bigSep_sep', bigSep_sep', ← out_blocks, ← idx_pages, ← tab_shares]

/-- What the call takes of the three arrays is all of them, as they were; -/
theorem st_eq (d : Dev nD) : (bigSep Finset.univ fun c : Fin ((K (F := F)).nCore 0) => (P A).st 0 d c)
    = iprop((idxLoc d ↦{fullShare} A.idx d) ∗ (tabLoc d ↦{fullShare} A.tab d) ∗ (outLoc d ↦{fullShare} A.old d)) :=
  (whole_eq A d (A.old d)).symm
/-- what it brings back is all of them, the result filled in. -/
theorem dn_eq (d : Dev nD) : (bigSep Finset.univ fun c : Fin ((K (F := F)).nCore 0) => (P A).dn 0 d c)
    = iprop((idxLoc d ↦{fullShare} A.idx d) ∗ (tabLoc d ↦{fullShare} A.tab d) ∗ (outLoc d ↦{fullShare} res A d)) :=
  (whole_eq A d (res A d)).symm

/-! ## The ghost state the launch begins with -/

/-- The ghost state that the launch begins with: the handshakes, and the counts of the tiles' copies. -/
def u₀ : UU := (initOf (K (F := F)).hsCells (K (F := F)).hsToks, 1)

/-- It gives what the launch asks for. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  have e : ∀ (I : Type) (s : Finset I), (bigSep s fun _ => iprop(emp)) = (iprop(emp) : sProp 𝕄) := fun _ s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [e]; iempintro
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), e]
  iempintro

end Cert.Lookup.Tile

end
-- ==== Proof.LookupRun.lean ====
/-
  The whole program that pads the codebook, splits the indices into pages, looks the rows up on the SparseCores and cuts
  the result to the codebook's width: its run, from any memory whose indices are in range.
-/
module

public import proofs.«01_k».proof.Proof.LookupLaunch

@[expose] public section

noncomputable section

namespace Cert.Lookup.Tile

open Cert.Lookup Cert.Lookup.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## @main in three parts -/

/-- The host operations before the call, -/
abbrev ops0 : List (HloOp τ sig (Elt F)) :=
  [ StableHlo.reshape main_arg1 main_v0 (rfl : (.i32 : EltTy) = .i32) shapeCasts_S8192_S32x2x128,
    StableHlo.nullary main_cst (constant S_ .f32 0x00000000#32),
    StableHlo.unary main_cst main_v1 (broadcastInDim S8192x128 ![] bcast_S_S8192x128 : (⟨S_, .f32⟩ : BufTy).Contents (Elt F) → (⟨S8192x128, .f32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.ternary main_v1 main_v2 main_arg0 main_v3 ((fun x i u => Host.scatter scatter_S8192x128_S1_S8192x32_01_n_1_0 (fun _ b => b) x i u) : (⟨S8192x128, .f32⟩ : BufTy).Contents (Elt F) → (⟨S1, .i32⟩ : BufTy).Contents (Elt F) → (⟨S8192x32, .f32⟩ : BufTy).Contents (Elt F) → (⟨S8192x128, .f32⟩ : BufTy).Contents (Elt F)) ]
/-- and the one after it. -/
abbrev ops1 : List (HloOp τ sig (Elt F)) :=
  [ StableHlo.unary main_v4 main_v5 ((extractStridedSlice S8192x32 ![0, 0] · slices_S8192x128_S8192x32_0_0) : (⟨S8192x128, .f32⟩ : BufTy).Contents (Elt F) → (⟨S8192x32, .f32⟩ : BufTy).Contents (Elt F)) ]

/-- @main is these parts in order. -/
theorem main_eq (d : Dev nD) : main (F := F) d
    = (StableHlo.seq ops0 >>= fun _ => (sc (F := F)).run d 0 >>= fun _ => StableHlo.seq ops1 >>= fun _ => pure ⟨⟩) := by
  chain_rfl

variable (m : (ℓ : Loc nD τ sig) → Buf (Elt F) ℓ) (ρ : Dev nD → PrngReg)

/-- The TensorCore's buffers at launch, -/
def V₀ (d : Dev nD) : Valuation τ sig (Elt F) := fun b => m (d, b)
/-- when the call begins, -/
@[irreducible] def V₁ (d : Dev nD) : Valuation τ sig (Elt F) := StableHlo.after ops0 (V₀ m d)
/-- The definition, spelt out. -/
theorem V₁_eq (d : Dev nD) : V₁ m d = StableHlo.after ops0 (V₀ m d) := by unfold V₁; rfl
/-- What the call is made on. -/
def args : Args F where
  tab d := V₁ m d (Proc.devRef .tc main_v3)
  idx d := V₁ m d (Proc.devRef .tc main_v0)
  old d := V₁ m d (Proc.devRef .tc main_v4)
/-- when the call has ended, -/
def V₂ (d : Dev nD) : Valuation τ sig (Elt F) := Function.update (V₁ m d) (Proc.devRef .tc main_v4) (res (args m) d)
/-- and at the end. -/
@[irreducible] def V₃ (d : Dev nD) : Valuation τ sig (Elt F) := StableHlo.after ops1 (V₂ m d)
/-- The definition, spelt out. -/
theorem V₃_eq (d : Dev nD) : V₃ m d = StableHlo.after ops1 (V₂ m d) := by unfold V₃; rfl

/-- The call's three arrays among the TensorCore's buffers. -/
abbrev three : Finset (DevRef τ sig) := {Proc.devRef .tc main_v0, Proc.devRef .tc main_v3, Proc.devRef .tc main_v4}

/-- They are among its buffers. -/
theorem three_sub : three ⊆ Pipeline.ucRefs τ sig := by
  intro b hb
  simp only [three, Finset.mem_insert, Finset.mem_singleton] at hb
  rcases hb with rfl | rfl | rfl <;> exact Finset.mem_filter.mpr ⟨StableHlo.devRef_mem_tcRefs _, by decide⟩

omit [FloatOps F] in
/-- The TensorCore's buffers are the three arrays and the others. -/
theorem held_eq (d : Dev nD) (W : Valuation τ sig (Elt F)) :
    (StableHlo.held (d.tc : Thread nD τ) (Pipeline.ucRefs τ sig) W : sProp 𝕄)
      = iprop(((idxLoc d ↦{fullShare} W (Proc.devRef .tc main_v0)) ∗ (tabLoc d ↦{fullShare} W (Proc.devRef .tc main_v3))
          ∗ (outLoc d ↦{fullShare} W (Proc.devRef .tc main_v4)))
          ∗ StableHlo.held (d.tc : Thread nD τ) (Pipeline.ucRefs τ sig \ three) W) := by
  rw [StableHlo.held_sub_split (d.tc : Thread nD τ) three_sub W]
  congr 1
  unfold StableHlo.held three
  rw [SparseCore.bigSep_insert' (by decide), SparseCore.bigSep_insert' (by decide), bigSep_singleton]

/-- After the SparseCores' call the index array is as it was, -/
theorem V₂_idx (d : Dev nD) : V₂ m d (Proc.devRef .tc main_v0) = (args m).idx d := Function.update_of_ne (by decide) _ _
/-- so is the padded codebook, -/
theorem V₂_tab (d : Dev nD) : V₂ m d (Proc.devRef .tc main_v3) = (args m).tab d := Function.update_of_ne (by decide) _ _
/-- and the result array holds the result. -/
theorem V₂_out (d : Dev nD) : V₂ m d (Proc.devRef .tc main_v4) = res (args m) d := Function.update_self _ _ _

/-- The buffers when the call has ended, put together again. -/
theorem held_V₂ (d : Dev nD) :
    (StableHlo.held (d.tc : Thread nD τ) (Pipeline.ucRefs τ sig) (V₂ m d) : sProp 𝕄)
      = iprop(((idxLoc d ↦{fullShare} (args m).idx d) ∗ (tabLoc d ↦{fullShare} (args m).tab d)
          ∗ (outLoc d ↦{fullShare} res (args m) d))
          ∗ StableHlo.held (d.tc : Thread nD τ) (Pipeline.ucRefs τ sig \ three) (V₁ m d)) := by
  rw [held_eq, StableHlo.held_congr (d.tc : Thread nD τ) (S := Pipeline.ucRefs τ sig \ three) (V := V₂ m d) (V' := V₁ m d) fun b hb =>
    Function.update_of_ne (fun e => (Finset.mem_sdiff.mp hb).2 (by simp [three, e])) _ _]
  rw [V₂_idx, V₂_tab, V₂_out]

/-- The host's operations name only buffers of the TensorCore. -/
theorem ops0_sub : ∀ op ∈ (ops0 : List (HloOp τ sig (Elt F))), op.bufs ⊆ Pipeline.ucRefs τ sig := by
  intro op h
  refine Pipeline.sub_ucRefs op ?_
  fin_cases h
  exacts [StableHlo.reshape_bufs_sub .., StableHlo.nullary_bufs_sub .., StableHlo.unary_bufs_sub .., StableHlo.nullary_bufs_sub ..,
    StableHlo.unary_bufs_sub .., StableHlo.ternary_bufs_sub ..]
/-- The host's operations name only buffers of the TensorCore. -/
theorem ops1_sub : ∀ op ∈ (ops1 : List (HloOp τ sig (Elt F))), op.bufs ⊆ Pipeline.ucRefs τ sig := by
  intro op h
  refine Pipeline.sub_ucRefs op ?_
  fin_cases h
  exact StableHlo.unary_bufs_sub ..

set_option maxRecDepth 16384 in
/-- @main on a TensorCore: from its buffers at launch to its buffers at the end. -/
theorem hmain (κ : GSem nD τ sig → ℕ) (d : Dev nD) :
    iprop((K (F := F)).ctx EH (P (args m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ StableHlo.held (d.tc : Thread nD τ) (Pipeline.ucRefs τ sig) (V₃ m d) ∗ (K (F := F)).tcEnd d) := by
  unfold SparseCore.Cfg.tcRes SparseCore.Cfg.tcEnd
  rw [show (unscopedBufs d (fun b => m ((SparseCore.T d : Thread nD τ).loc b)) : sProp 𝕄) = StableHlo.held (d.tc : Thread nD τ) (Pipeline.ucRefs τ sig) (V₀ m d) from
    Pipeline.unscopedBufs_held d (V₀ m d), main_eq]
  iintro ⟨#Hctx, Hst, ⟨Hb, Hh, Hts, -⟩, -⟩
  iapply (StableHlo.wp_seq 𝒱 none Set.univ d (Pipeline.ucRefs τ sig) _ ops0 ops0_sub (by intro op h; fin_cases h <;> rfl) (V₀ m d)) $$ [Hb Hh]
  · isplitl [Hb] <;> iassumption
  rw [← V₁_eq]
  iintro ⟨Hb, Hh⟩
  ihave Hh' := (Entails.of_eq (held_eq d _)) $$ Hh
  icases Hh' with ⟨H3, Hh⟩
  rw [wp_bind]
  iapply ((K (F := F)).wp_run (D (F := F)) 𝒱 (EH := EH) (P := P (args m)) κ d 0) $$ [Hst H3 Hh Hb Hts]
  isplitr; · iexact Hctx
  isplitl [Hst]; · iexact Hst
  isplitl [H3]
  · rw [st_eq]; iexact H3
  iintro ⟨Hst, Hdn⟩
  ihave Hdn' := (Entails.of_eq (dn_eq (args m) d)) $$ Hdn
  ihave Hh' := (Entails.of_eq (held_V₂ m d).symm) $$ [Hdn' Hh]
  · isplitl [Hdn']; · iexact Hdn'
    iexact Hh
  iapply (StableHlo.wp_seq 𝒱 none Set.univ d (Pipeline.ucRefs τ sig) _ ops1 ops1_sub (by intro op h; fin_cases h <;> rfl) (V₂ m d)) $$ [Hb Hh']
  · isplitl [Hb] <;> iassumption
  rw [← V₃_eq]
  iintro ⟨Hb, Hh⟩
  rw [wp_pure]
  imodintro
  isplitl [Hst]; · iexact Hst
  isplitl [Hh]; · iexact Hh
  isplitl [Hb] <;> iassumption

/-- What a buffer of the TensorCore holds at the end. -/
def fq (d : Dev nD) (s' : Phys nD τ sig (Elt F)) : Prop :=
  ∀ b ∈ Pipeline.ucRefs τ sig, s'.mem.mem (d, b) = V₃ m d b

/-- Holding the buffers so, the memory holds them so. -/
theorem hfin (d : Dev nD) (s' : Phys nD τ sig (Elt F)) :
    iprop(StableHlo.held (d.tc : Thread nD τ) (Pipeline.ucRefs τ sig) (V₃ m d) ∗ SI s') ⊢ (⌜fq m d s'⌝ : sProp 𝕄) := by
  intro x hx b hb
  have h := ((sep_mono (bigSep_elim hb) .rfl).trans (sep_comm.1.trans
    (SI_pointsTo_agree (st := s') (ℓ := (d, b)) (I := Finset.univ) (q := fullShare) (f := V₃ m d b)))) x hx
  exact funext fun i => h i (Finset.mem_univ i)

/-- The program's run: every buffer of a TensorCore ends as the operations leave it, every counter at zero. -/
theorem run_main [∀ e, Nonempty (Elt F e)] (h : InRange (args m)) :
    θ_run (Cert.Lookup.defs (F := F)) (Cert.Lookup.threads (F := F)) ⟨m, fun _ => 0, ρ⟩
      (fun r => (∀ c : Dev nD, ∀ b ∈ Pipeline.ucRefs τ sig, r.2.mem (c, b) = V₃ m c b) ∧ r.2.sem = fun _ => 0) :=
  SparseCore.Cfg.θ_run_sc_quiescent (K := K (F := F)) (D := D (F := F)) (𝒱 := 𝒱) (EH := EH) (P := P (args m)) (A := ∅) facts v₀
    (fun q hq => match q with | 0 => nomatch hq)
    (fun q _ => match q with | 0 => tileObl (args m) h)
    (fun q _ => match q with | 0 => SparseCore.Cfg.VecSplit.of_plain (vecSplit (args m)))
    m ρ main (fun _ => iprop(emp)) (fun d => StableHlo.held (d.tc : Thread nD τ) (Pipeline.ucRefs τ sig) (V₃ m d)) (u₀ (F := F))
    (sep_elim_left.trans (hu₀ (args m))) (hmain m ρ) (fq m) (hfin m) _ (fun _ h hz => ⟨h, hz⟩)

end Cert.Lookup.Tile

end
-- ==== Proof.LookupClaims.lean ====
/-
  The row lookup (`Lookup`) against its reference (`LookupRef`): what the precondition `rows` says of the indices, the two
  frames, and the value claim.  Both programs end with the rows of the codebook that the indices name.
-/
module

public import proofs.«01_k».proof.Defs
public import proofs.«01_k».proof.Proof.LookupRun
public import proofs.«01_k».proof.Proof.HostOps
public import proofs.«01_k».proof.Proof.Gen.LookupRef.Run
public import proofs.«01_k».proof.Proof.Gen.Pre_rows
public import Idealize.ShloMosaic.Lib.Quiescent
public import Idealize.ShloMosaic.Lib.Pipeline.FrameTail

@[expose] public section

noncomputable section

namespace Cert.Lookup.Tile

open Cert.Lookup Cert.Lookup.Gen Cert.HostOps
open Idealize.ShloMosaic Idealize.SL.Sem Idealize.ShloMosaic.StableHlo Idealize.ShloMosaic.TcCoe

variable {F : FTy → Type} [FloatOps F] (m : (ℓ : Loc nD τ sig) → Buf (Elt F) ℓ)

/-- The program's two arguments. -/
abbrev book (d : Dev nD) : FVec F S8192x32 .f32 := m ((d.tc : Thread nD τ).loc main_arg0)
abbrev word (d : Dev nD) : IVec S8192 32 := m ((d.tc : Thread nD τ).loc main_arg1)

/-- The call reads the padded codebook and the indices cut into pages. -/
theorem args_tab (d : Dev nD) : (args m).tab d = padded (book m d) := by
  show V₁ m d (Proc.devRef .tc main_v3) = _
  rw [V₁_eq]
  after_results <;> rfl
theorem args_idx (d : Dev nD) : (args m).idx d = shapeCast S32x2x128 (word m d) shapeCasts_S8192_S32x2x128 := by
  show V₁ m d (Proc.devRef .tc main_v0) = _
  rw [V₁_eq]
  after_results <;> rfl

/-- The index of row `r`, in its page. -/
theorem args_rowIdx (d : Dev nD) (r : Fin 8192) : (args m).idx d (rowIdx r) = word m d (ix1 r) := by
  rw [args_idx]
  refine congrArg (word m d) ?_
  refine Shape.reshapeEquiv_eq_of_rowMajor _ ?_
  rw [rowMajor_val1, rowMajor_val3 _ 256 128 rfl rfl]
  show r.val = r.val / 256 * 256 + r.val % 256 / 128 * 128 + r.val % 128
  omega

/-- The program's result: the call's, cut to the codebook's width. -/
theorem V₃_result (d : Dev nD) : V₃ m d (Proc.devRef .tc main_v5)
    = extractStridedSlice S8192x32 ![0, 0] (res (args m) d) slices_S8192x128_S8192x32_0_0 := by
  rw [V₃_eq, ← V₂_out]
  after_results <;> rfl
/-- The two arguments at the end. -/
theorem V₃_arg0 (d : Dev nD) : V₃ m d (Proc.devRef .tc main_arg0) = book m d := by
  rw [V₃_eq]
  after_results
  rw [V₂, Function.update_of_ne (by decide), V₁_eq]
  after_results <;> rfl
theorem V₃_arg1 (d : Dev nD) : V₃ m d (Proc.devRef .tc main_arg1) = word m d := by
  rw [V₃_eq]
  after_results
  rw [V₂, Function.update_of_ne (by decide), V₁_eq]
  after_results <;> rfl

/-- It is the rows of the codebook at the indices. -/
theorem result_eq (d : Dev nD) : V₃ m d (Proc.devRef .tc main_v5) = rowsAt (book m d) (word m d) := by
  rw [V₃_result]
  funext j
  obtain ⟨r, x, rfl⟩ : ∃ r x, j = ix2 r x := ⟨_, _, eq_ix2 j⟩
  have e : extractStridedSlice S8192x32 ![0, 0] (res (args m) d) slices_S8192x128_S8192x32_0_0 (ix2 r x)
      = res (args m) d (ix2 r (⟨x.val, by omega⟩ : Fin 128)) := by
    pointwise
  rw [e]
  show (args m).tab d (ix2 (⟨((args m).idx d (rowIdx r) : BitVec 32).toNat % 8192, _⟩ : Fin 8192) (⟨x.val, _⟩ : Fin 128)) = _
  rw [args_tab, padded_apply]
  simp only [args_rowIdx]
  rfl

/-- With every index below 8192, every run ends with the rows at the indices, its arguments unchanged and every counter at zero. -/
theorem run [∀ e, Nonempty (Elt F e)] (ρ : Dev nD → PrngReg) (h : ∀ d r, (word m d (ix1 r)).toNat < 8192) :
    θ_run (Cert.Lookup.defs (F := F)) (Cert.Lookup.threads (F := F)) ⟨m, fun _ => 0, ρ⟩
      (fun r => (∀ c : Dev nD, r.2.mem ((c.tc : Thread nD τ).loc main_v5) = rowsAt (book m c) (word m c)
        ∧ r.2.mem ((c.tc : Thread nD τ).loc main_arg0) = book m c
        ∧ r.2.mem ((c.tc : Thread nD τ).loc main_arg1) = word m c) ∧ r.2.sem = fun _ => 0) := by
  have hr : InRange (args m) := fun d j => by
    rw [args_idx]
    show (word m d _).toNat < 8192
    rw [eq_ix1 (Shape.reshapeEquiv _ j)]
    exact h d _
  refine (θ_run _ _ _).mono (fun r hr => ⟨fun c => ?_, hr.2⟩) (run_main m ρ hr)
  exact ⟨(hr.1 c _ (Pipeline.devRef_mem_ucRefs rfl)).trans (result_eq m c), (hr.1 c _ (Pipeline.devRef_mem_ucRefs rfl)).trans (V₃_arg0 m c),
    (hr.1 c _ (Pipeline.devRef_mem_ucRefs rfl)).trans (V₃_arg1 m c)⟩

/-- The precondition says that every index is below 8192. -/
theorem rows_of_pre {x : FVec F S8192x32 .f32} {y : IVec S8192 32} (h : Cert.Pre_rows.fn x y = fun _ => 1#1) (r : Fin 8192) :
    (y (ix1 r)).toNat < 8192 := by
  have h0 := congrFun h ix0
  dsimp only [Cert.Pre_rows.fn] at h0
  haveI : Subsingleton (Cert.Pre_rows.S_).Idx := ⟨fun a b => funext fun i => i.elim0⟩
  obtain ⟨hl, hu⟩ := IntOp.andi_eq_one.1 (Host.reduce_andi_all _ _ _ _ _ h0 (ix1 r))
  have hl' : BitVec.ofBool ((0#32).sle (y (ix1 r))) = 1#1 := hl
  have hu' : BitVec.ofBool ((y (ix1 r)).slt 8192#32) = 1#1 := hu
  generalize y (ix1 r) = v at hl' hu'
  have a : (0#32).sle v = true := by revert hl'; cases (0#32).sle v <;> simp
  have b : v.slt 8192#32 = true := by revert hu'; cases v.slt 8192#32 <;> simp
  simp only [BitVec.sle_eq_decide, BitVec.slt_eq_decide, decide_eq_true_eq, BitVec.toInt_eq_toNat_cond, BitVec.toNat_ofNat, Nat.reducePow, Nat.reduceMod] at a b
  omega

/-- The lookup runs, leaves its arguments and ends with every counter at zero. -/
theorem frame : Cert.quiescent_Lookup := by
  intro m g hpre
  exact (θ_run _ _ _).mono (fun r h => ⟨fun c => (h.1 c).2, h.2⟩) (run m g fun d r => rows_of_pre (hpre d) r)

/-- So does its reference. -/
theorem frame_ref : Cert.quiescent_LookupRef := by
  intro m g _
  exact (θ_run _ _ _).mono (fun r h => ⟨fun c => (h c).2, sem_eq_zero_of_no_sems rfl r.2⟩) (Cert.LookupRef.Value.run m g)

/-- From memories with equal arguments, the indices in range, both end with the same rows. -/
theorem bitexact : Cert.bitexact_Lookup_LookupRef := by
  intro m g m' g' hpre hagree
  have h : ∀ d r, (word m d (ix1 r)).toNat < 8192 := fun d r => rows_of_pre (hpre d) r
  refine ⟨fun c => rowsAt (book m c) (word m c), ?_, ?_⟩
  · exact (θ_run _ _ _).mono (fun r h c => h.1 c) (run m g h)
  · refine (θ_run _ _ _).mono (fun r hr c => ?_) (Cert.LookupRef.Value.run m' g')
    obtain ⟨h1, h2, h3⟩ := hr c
    refine ⟨h1.trans ?_, h2, h3⟩
    rw [(hagree c).1, (hagree c).2]
    have e := take_eq (book m c) (word m c) (h c)
    unfold take wrapped at e
    exact e

end Cert.Lookup.Tile

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Nearest
public import proofs.«01_k».proof.Proof.Gen.Nearest.Frame
public import proofs.«01_k».proof.Proof.Gen.NearestIdeal.Frame
public import proofs.«01_k».proof.Proof.Gen.NearestIdeal.Value
public import proofs.«01_k».proof.Proof.Gen.NearestRefIdeal
public import proofs.«01_k».proof.Proof.Gen.Lookup
public import proofs.«01_k».proof.Proof.Gen.Lookup.Skeleton
public import proofs.«01_k».proof.Proof.Gen.LookupRef
public import proofs.«01_k».proof.Proof.Gen.LookupRef.Run
public import proofs.«01_k».proof.Proof.Gen.Pre_finite
public import proofs.«01_k».proof.Proof.Gen.Pre_rows
public import proofs.«01_k».proof.Proof.KernelClaims
public import proofs.«01_k».proof.Proof.NearClaims
public import proofs.«01_k».proof.Proof.LookupClaims
public import Idealize.ShloMosaic.Adequacy
public import Idealize.ShloMosaic.Init

@[expose] public section

noncomputable section

namespace Cert.Proof

open Idealize.ShloMosaic Idealize.SL.Sem

/-- Everything claimed: of the whole kernel, of the TensorCore call alone and of the SparseCore call alone. -/
theorem claim : Cert.Claim := ⟨
  Cert.KernelIdeal.Gen.facts, Cert.ReferenceIdeal.Gen.facts, Cert.Nearest.Gen.facts, Cert.NearestIdeal.Gen.facts, Cert.NearestRefIdeal.Gen.facts, Cert.Lookup.Gen.facts, Cert.LookupRef.Gen.facts, Cert.Pre_finite.Gen.facts, Cert.Pre_rows.Gen.facts,
  Cert.KernelIdeal.Tile.frame, Cert.KernelIdeal.Tile.frame_finite,
  Cert.KernelIdeal.Tile.frame_ref, Cert.KernelIdeal.Tile.frame_ref_finite,
  fun m ρ _ => Cert.Nearest.Gen.frame m ρ,
  fun m ρ _ => Cert.NearestIdeal.Gen.frame m ρ, fun m ρ _ => Cert.NearestIdeal.Gen.frame m ρ,
  fun m ρ _ => Cert.NearestRefIdeal.Search.frame m ρ, fun m ρ _ => Cert.NearestRefIdeal.Search.frame m ρ,
  Cert.Lookup.Tile.frame, Cert.Lookup.Tile.frame_ref,
  Cert.KernelIdeal.Tile.algebraic,
  trivial, Cert.NearestIdeal.Near.algebraic,
  Cert.Lookup.Tile.bitexact⟩

end Cert.Proof

end
